-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x128 : Shape := ⟨2, ![64, 128]⟩
abbrev S1x128 : Shape := ⟨2, ![1, 128]⟩
abbrev S10240x256 : Shape := ⟨2, ![10240, 256]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩
abbrev S1x256 : Shape := ⟨2, ![1, 256]⟩
abbrev S10240x128 : Shape := ⟨2, ![10240, 128]⟩
abbrev S10000x10240 : Shape := ⟨2, ![10000, 10240]⟩
abbrev S2048x2048 : Shape := ⟨2, ![2048, 2048]⟩
abbrev S10240x64 : Shape := ⟨2, ![10240, 64]⟩
abbrev S1280x10240 : Shape := ⟨2, ![1280, 10240]⟩
abbrev S1280x64 : Shape := ⟨2, ![1280, 64]⟩
abbrev S1280x128 : Shape := ⟨2, ![1280, 128]⟩
abbrev S1x64 : Shape := ⟨2, ![1, 64]⟩

abbrev nBuf : Space → Nat
  | .hbm => 24
  | .vmem => 38
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S10240x256, .bf16⟩
  | .hbm, ⟨15, _⟩ => ⟨S1x256, .f32⟩
  | .hbm, ⟨16, _⟩ => ⟨S10240x128, .bf16⟩
  | .hbm, ⟨17, _⟩ => ⟨S10000x10240, .fp8e4m3⟩
  | .hbm, ⟨18, _⟩ => ⟨S1x128, .f32⟩
  | .hbm, ⟨19, _⟩ => ⟨S10240x64, .bf16⟩
  | .hbm, ⟨20, _⟩ => ⟨S1x64, .f32⟩
  | .hbm, ⟨21, _⟩ => ⟨S10240x128, .bf16⟩
  | .hbm, ⟨22, _⟩ => ⟨S1x128, .f32⟩
  | .hbm, ⟨23, _⟩ => ⟨S10000x128, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S1x128, .f32⟩
  | .local _ .vmem, ⟨4, _⟩ => ⟨S128x256, .f32⟩
  | .local _ .vmem, ⟨5, _⟩ => ⟨S2048x256, .bf16⟩
  | .local _ .vmem, ⟨6, _⟩ => ⟨S2048x256, .bf16⟩
  | .local _ .vmem, ⟨7, _⟩ => ⟨S2048x2048, .f32⟩
  | .local _ .vmem, ⟨8, _⟩ => ⟨S2048x2048, .f32⟩
  | .local _ .vmem, ⟨9, _⟩ => ⟨S2048x256, .bf16⟩
  | .local _ .vmem, ⟨10, _⟩ => ⟨S2048x256, .bf16⟩
  | .local _ .vmem, ⟨11, _⟩ => ⟨S1x256, .f32⟩
  | .local _ .vmem, ⟨12, _⟩ => ⟨S256x128, .f32⟩
  | .local _ .vmem, ⟨13, _⟩ => ⟨S2048x128, .bf16⟩
  | .local _ .vmem, ⟨14, _⟩ => ⟨S2048x128, .bf16⟩
  | .local _ .vmem, ⟨15, _⟩ => ⟨S2048x2048, .fp8e4m3⟩
  | .local _ .vmem, ⟨16, _⟩ => ⟨S2048x2048, .fp8e4m3⟩
  | .local _ .vmem, ⟨17, _⟩ => ⟨S2048x256, .f32⟩
  | .local _ .vmem, ⟨18, _⟩ => ⟨S1280x10240, .fp8e4m3⟩
  | .local _ .vmem, ⟨19, _⟩ => ⟨S1280x10240, .fp8e4m3⟩
  | .local _ .vmem, ⟨20, _⟩ => ⟨S10240x128, .bf16⟩
  | .local _ .vmem, ⟨21, _⟩ => ⟨S1x128, .f32⟩
  | .local _ .vmem, ⟨22, _⟩ => ⟨S128x64, .f32⟩
  | .local _ .vmem, ⟨23, _⟩ => ⟨S1280x64, .bf16⟩
  | .local _ .vmem, ⟨24, _⟩ => ⟨S1280x64, .bf16⟩
  | .local _ .vmem, ⟨25, _⟩ => ⟨S1280x10240, .fp8e4m3⟩
  | .local _ .vmem, ⟨26, _⟩ => ⟨S1280x10240, .fp8e4m3⟩
  | .local _ .vmem, ⟨27, _⟩ => ⟨S10240x64, .bf16⟩
  | .local _ .vmem, ⟨28, _⟩ => ⟨S1x64, .f32⟩
  | .local _ .vmem, ⟨29, _⟩ => ⟨S64x128, .f32⟩
  | .local _ .vmem, ⟨30, _⟩ => ⟨S1280x128, .bf16⟩
  | .local _ .vmem, ⟨31, _⟩ => ⟨S1280x128, .bf16⟩
  | .local _ .vmem, ⟨32, _⟩ => ⟨S1280x10240, .fp8e4m3⟩
  | .local _ .vmem, ⟨33, _⟩ => ⟨S1280x10240, .fp8e4m3⟩
  | .local _ .vmem, ⟨34, _⟩ => ⟨S10240x128, .bf16⟩
  | .local _ .vmem, ⟨35, _⟩ => ⟨S1x128, .f32⟩
  | .local _ .vmem, ⟨36, _⟩ => ⟨S1280x128, .f32⟩
  | .local _ .vmem, ⟨37, _⟩ => ⟨S1280x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem3_0 : DmaSem sig := 35
abbrev cc4_sem3_1 : DmaSem sig := 36

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![5, 5], ![false, false]⟩

def k1_cond4 (i : grid1.Coords) : BitVec 1 :=
  let arg1 : BitVec 32 := BitVec.ofNat 32 (i 1).val
  let c4_i32_1 : BitVec 32 := 4#32
  let v5 : BitVec 1 := Scalar.cmpi .eq arg1 c4_i32_1
  let v6 : BitVec 32 := Scalar.extui v5
  let c0_i32_2 : BitVec 32 := 0#32
  let v7 : BitVec 1 := Scalar.cmpi .ne v6 c0_i32_2
  v7

def k1_cond1 (i : grid1.Coords) : BitVec 1 :=
  let arg1 : BitVec 32 := BitVec.ofNat 32 (i 1).val
  let c4_i32 : BitVec 32 := 4#32
  let v2 : BitVec 1 := Scalar.cmpi .slt arg1 c4_i32
  let v3 : BitVec 32 := Scalar.extui v2
  let c0_i32 : BitVec 32 := 0#32
  let v4 : BitVec 1 := Scalar.cmpi .ne v3 c0_i32
  v4

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x2048 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1280x10240 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10240x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1280x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1280x10240 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10240x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1280x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1280x10240 .fp8e4m3 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10240x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1280x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== ReferenceIdeal.lean ====
abbrev S10000x128 : Shape := ⟨2, ![10000, 128]⟩
abbrev S10000x10000 : Shape := ⟨2, ![10000, 10000]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x128 : Shape := ⟨2, ![64, 128]⟩
abbrev S_ : Shape := ⟨0, ![]⟩
abbrev S10000 : Shape := ⟨1, ![10000]⟩
abbrev S10000x1 : Shape := ⟨2, ![10000, 1]⟩
abbrev S1x128 : Shape := ⟨2, ![1, 128]⟩
abbrev S10000x256 : Shape := ⟨2, ![10000, 256]⟩
abbrev S1x256 : Shape := ⟨2, ![1, 256]⟩
abbrev S10000x64 : Shape := ⟨2, ![10000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S_, .f32⟩
  | .hbm, ⟨16, _⟩ => ⟨S10000x1, .f32⟩
  | .hbm, ⟨17, _⟩ => ⟨S10000x1, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x1, .f32⟩
  | .hbm, ⟨31, _⟩ => ⟨S10000x1, .f32⟩
  | .hbm, ⟨32, _⟩ => ⟨S10000x1, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S10000x256, .f32⟩
  | .hbm, ⟨42, _⟩ => ⟨S10000x256, .f32⟩
  | .hbm, ⟨43, _⟩ => ⟨S1x256, .f32⟩
  | .hbm, ⟨44, _⟩ => ⟨S10000x256, .f32⟩
  | .hbm, ⟨45, _⟩ => ⟨S10000x256, .f32⟩
  | .hbm, ⟨46, _⟩ => ⟨S_, .f32⟩
  | .hbm, ⟨47, _⟩ => ⟨S10000x256, .f32⟩
  | .hbm, ⟨48, _⟩ => ⟨S10000x256, .f32⟩
  | .hbm, ⟨49, _⟩ => ⟨S10000x128, .f32⟩
  | .hbm, ⟨50, _⟩ => ⟨S10000x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S_, .f32⟩
  | .hbm, ⟨55, _⟩ => ⟨S10000x128, .f32⟩
  | .hbm, ⟨56, _⟩ => ⟨S10000x128, .f32⟩
  | .hbm, ⟨57, _⟩ => ⟨S10000x64, .f32⟩
  | .hbm, ⟨58, _⟩ => ⟨S10000x64, .f32⟩
  | .hbm, ⟨59, _⟩ => ⟨S1x64, .f32⟩
  | .hbm, ⟨60, _⟩ => ⟨S10000x64, .f32⟩
  | .hbm, ⟨61, _⟩ => ⟨S10000x64, .f32⟩
  | .hbm, ⟨62, _⟩ => ⟨S_, .f32⟩
  | .hbm, ⟨63, _⟩ => ⟨S10000x64, .f32⟩
  | .hbm, ⟨64, _⟩ => ⟨S10000x64, .f32⟩
  | .hbm, ⟨65, _⟩ => ⟨S10000x128, .f32⟩
  | .hbm, ⟨66, _⟩ => ⟨S10000x128, .f32⟩
  | .hbm, ⟨67, _⟩ => ⟨S1x128, .f32⟩
  | .hbm, ⟨68, _⟩ => ⟨S10000x128, .f32⟩
  | .hbm, ⟨69, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call2_cst : Ref sig .tc := ⟨.hbm, 62, rfl⟩
abbrev main_call2_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== Proof.Chain.lean ====
/- A program of several kernel regions whose arrays are not chosen in advance.

   Between two items of @main a core holds every unscoped buffer whole at SOME contents `V` satisfying a predicate `I`
   (`St`).  A host stretch carries `V` to the contents its operations leave; a kernel region carries it to `V` with the
   region's arrays replaced by contents its proof data allow.  Both are host segments here, so a program is one list of
   them; the regions' ghost state travels inside the thread state. -/
module

public import Idealize.ShloMosaic.Lib.Pipeline.Kit
public import Idealize.ShloMosaic.Lib.Pipeline.Regions
public import Idealize.ShloMosaic.Lib.Pipeline.Frame
public import Idealize.ShloMosaic.Lib.Pipeline.FrameBody
public import Idealize.ShloMosaic.Lib.Pipeline.RegionArrays
public import Idealize.ShloMosaic.Lib.Pipeline.FrameSuffix
public import Idealize.ShloMosaic.Lib.VecWindow
public import Idealize.ShloMosaic.Lib.WritesUnit
public import Idealize.ShloMosaic.Lib.Pipeline.Value

@[expose] public section

noncomputable section

namespace Cert.Chain

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P] [DecidableEq P]

variable (pcs : P → PCfg sig Λ₀ Val) (a : (p : P) → (pcs p).Adm) (ι : Ix)
  (EQ : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

/-- A view read after a store over the whole of it reads what was stored. -/
theorem read_full {κ : Kind} {sp : Space} {s : Shape} {e : EltTy} (v : View sig κ sp s e) (f : v.ty.Contents Val)
    {off : Fin s.rank → ℕ} (inb : ∀ a, off a + s.size a ≤ s.size a) (w : s.Idx → Val e) (L : List (View.Piece Val s e)) :
    v.read Val (v.writes Val f ((⟨Rect.unit off s.size inb, w⟩ : View.Piece Val s e) :: L)) = w := by
  funext y
  exact View.read_writes_cons_unit_of_mem v f inb w L y y rfl (fun a => by have := inb a; omega)

/-- The generator register at some value and the core owing nothing. -/
def Idle (c : Dev nD) : sProp 𝕄 :=
  iprop((∃ r, prngReg c r) ∗ ∃ W, owes (c.tc : Thread nD τ) (0 : CellTallies nD τ sig Ix) W)

/-- The thread state between two items: every unscoped buffer at some contents satisfying `I`, and the ghost state of
    the pipelines `S` not entered yet. -/
def St (I : Dev nD → Valuation τ sig Val → Prop) (S : Finset P) (c : Dev nD) : sProp 𝕄 :=
  iprop(∃ V, ⌜I c V⌝ ∗ StableHlo.held (c.tc : Thread nD τ) (ucRefs τ sig) V ∗ Idle c ∗ ghostOn pcs a EQ S c)

-- the buffers' and the wp's types meet up to instances the unifier must be allowed to unfold
set_option backward.isDefEq.respectTransparency.types false in
/-- A host stretch, from contents satisfying `I` to contents satisfying `I'`. -/
def ops (I I' : Dev nD → Valuation τ sig Val → Prop) (S : Finset P) (os : List (HloOp τ sig Val))
    (hS : ∀ op ∈ os, op.bufs ⊆ ucRefs τ sig) (hf : ∀ op ∈ os, op.fresh = ∅)
    (h : ∀ c V, I c V → I' c (StableHlo.after os V)) :
    HostSeg (Ix := Ix) (Name := Name) (U := U) pcs defs₀ 𝒱₀ L lv where
  prog := StableHlo.seq os
  pre := St pcs a EQ I S
  post := St pcs a EQ I' S
  run c {β} k K := by
    unfold St
    iintro ⟨Hk, Hbd, ⟨%V, %hI, Hh, HR⟩, -⟩
    iapply (StableHlo.wp_seq (defs := Pipeline.defs pcs defs₀) (Variants.lift 𝒱₀) none Set.univ c (ucRefs τ sig) k (K := K) os hS hf V) $$ [Hbd Hh]
    · isplitl [Hbd] <;> iassumption
    iintro ⟨Hbd, Hh⟩
    iapply Hk
    isplitl [Hbd]; · iexact Hbd
    iexists StableHlo.after os V
    isplitr; · ipureintro; exact h c V hI
    isplitl [Hh] <;> iassumption

section Region

variable (rdats : (p : P) → (c : Dev nD) → RDat τ Val Ix Name U Lvl (pin pcs a p) c) (p : P)

/-- A pipeline's arrays, at contents `G`, are its array buffers held at any valuation that has them at `G`. -/
theorem rarrays_held (kit : PLaunchFacts (nD := nD) (τ := τ) pcs p) (c : Dev nD) (hshare : ∀ w, (rdats p c).share w = fullShare)
    (G : (w : Fin (pin pcs a p).W) → Buf Val (((pin pcs a p).win w).arr.view.loc (c.tc : Thread nD τ))) (V : Valuation τ sig Val)
    (hG : ∀ w, G w = V (Proc.devRef .tc (arrRef (pin pcs a p).spec w))) :
    (bigSep Finset.univ (fun w => ((pin pcs a p).win w).arr.view.loc (c.tc : Thread nD τ) ↦[((pin pcs a p).win w).arr.view.set]{(rdats p c).share w} G w) : sProp 𝕄)
      = StableHlo.held (c.tc : Thread nD τ) (arrRefs (pcs p).spec) V := by
  have e : (bigSep Finset.univ (fun w => ((pin pcs a p).win w).arr.view.loc (c.tc : Thread nD τ) ↦[((pin pcs a p).win w).arr.view.set]{(rdats p c).share w} G w) : sProp 𝕄)
      = bigSep Finset.univ fun w => (((c.tc : Thread nD τ).loc (arrRef (pin pcs a p).spec w)) ↦{fullShare} G w : sProp 𝕄) :=
    bigSep_congr fun w _ => by rw [(kit.arr_whole w).set_eq_univ, hshare]
  rw [e]
  unfold StableHlo.held arrRefs
  rw [bigSep_map, show Finset.univ.image (arrRef (pcs p).spec) = Finset.univ.map ⟨arrRef (pcs p).spec, kit.win.arr_inj⟩ from
    (Finset.map_eq_image ⟨arrRef (pcs p).spec, kit.win.arr_inj⟩ Finset.univ).symm, bigSep_map]
  exact bigSep_congr fun w _ => by rw [hG]; rfl

/-- A region entered from every unscoped buffer at `V` and left with them at `V`, the region's arrays replaced by some
    contents the proof data allow after the last point. -/
def heldSeg [∀ e, Nonempty (Val e)] (kit : PLaunchFacts (nD := nD) (τ := τ) pcs p) (hK : (pcs p).pre.K = 0)
    (hbody : ∀ c, (rdats p c).BodyObligation defs₀ 𝒱₀ ι Set.univ)
    (howed : ∀ c t, (rdats p c).owed t = 0) (hrec : ∀ c, (rdats p c).recorded 0 = Set.univ)
    (hshare : ∀ c w, (rdats p c).share w = fullShare)
    (hin : ∀ c, scopedRest (pin pcs a p).spec c ⊢ (rdats p c).Φ 0)
    (hout : ∀ c, (rdats p c).Φ (Fin.last (pin pcs a p).N) ⊢ scopedRest (pin pcs a p).spec c)
    (V : Valuation τ sig Val)
    (hA : ∀ c w, (rdats p c).A w = V (Proc.devRef .tc (arrRef (pin pcs a p).spec w))) :
    RDat.RegionSeg pcs a rdats ι defs₀ 𝒱₀ L lv p where
  win := kit.to₀.win
  block_pos := kit.to₀.block_pos
  stage_whole := kit.to₀.stage_whole
  K := PEmpty
  osem k := k.elim
  ho := OwnSemFacts.none _
  hbody := hbody
  hwaits c := RDat.hwaits_of_owed_zero pcs a rdats ι L lv p howed c
  pre c := iprop(StableHlo.held (c.tc : Thread nD τ) (ucRefs τ sig) V ∗ Idle c)
  post c := iprop(∃ A, ⌜∀ w, (rdats p c).ArrAt w (pin pcs a p).N (A w)⌝
    ∗ StableHlo.held (c.tc : Thread nD τ) (ucRefs τ sig) (withArrays (pcs p).spec c V A) ∗ Idle c)
  X _ := iprop(emp)
  Y _ := iprop(emp)
  Z c := iprop(StableHlo.held (c.tc : Thread nD τ) (ucRefs τ sig \ arrRefs (pcs p).spec) V ∗ ∃ r, prngReg c r)
  hentry c := by
    rw [ownSems0_none, prefHeld_of_none _ hK, StableHlo.held_sub_split (c.tc : Thread nD τ) (arrRefs_sub_ucRefs (pcs p).spec kit.win.arr_unscoped) V]
    unfold Idle RDat.arrays
    rw [rarrays_held pcs a rdats p kit c (hshare c) (rdats p c).A V (hA c)]
    iintro ⟨⟨⟨Ha, Hr⟩, Hp, HO⟩, -, -⟩
    imodintro
    isplitl [Ha]; · iexact Ha
    isplitr; · iempintro
    isplitl [HO]
    · unfold RDat.owesAt owesWithin RDat.bound
      rw [howed c 0, hrec c]
      icases HO with ⟨%W, HO⟩; iexists W; isplitr; · ipureintro; exact fun _ _ => Or.inl trivial
      iexact HO
    isplitr; · iempintro
    isplitl [Hr] <;> iassumption
  hin c := (show _ ⊢ scopedRest (pin pcs a p).spec c from by
    iintro ⟨-, -, Hr⟩
    iexact Hr).trans (hin c)
  hout c := (hout c).trans (by
    rw [ownSems0_none]
    iintro Hr
    isplitr; · iempintro
    isplitr; · iempintro
    iexact Hr)
  hexit c := by
    iintro ⟨Ha, HO, -, Hr, Hp⟩
    unfold RDat.arraysAt
    ihave Ha := (bigSep_exists_pi Finset.univ (fun (w : Fin (pin pcs a p).W) F => iprop(⌜(rdats p c).ArrAt w (pin pcs a p).N F⌝
        ∗ ((pin pcs a p).win w).arr.view.loc (c.tc : Thread nD τ) ↦[((pin pcs a p).win w).arr.view.set]{(rdats p c).share w} F))) $$ Ha
    icases Ha with ⟨%A, Ha⟩
    ihave Ha := (bigSep_pure_sep Finset.univ (fun w : Fin (pin pcs a p).W => (rdats p c).ArrAt w (pin pcs a p).N (A w))
        (fun w => ((pin pcs a p).win w).arr.view.loc (c.tc : Thread nD τ) ↦[((pin pcs a p).win w).arr.view.set]{(rdats p c).share w} A w)) $$ Ha
    icases Ha with ⟨%hAt, Ha⟩
    imodintro
    iexists A
    isplitr; · ipureintro; exact fun w => hAt w (Finset.mem_univ w)
    unfold Idle
    have e := StableHlo.held_congr (Ix := Ix) (Name := Name) (U := U) (Lvl := Lvl) (c.tc : Thread nD τ) (S := ucRefs τ sig \ arrRefs (pcs p).spec)
      (V := withArrays (pcs p).spec c V A) (V' := V) (by
        intro b hb
        obtain ⟨hu, hn⟩ := Finset.mem_sdiff.mp hb
        obtain ⟨r, -, rfl⟩ := Finset.mem_map.mp (Finset.mem_filter.mp hu).1
        exact withArrays_of_ne _ c V A r fun w e => hn (Finset.mem_map.mpr ⟨r, Finset.mem_image.mpr ⟨w, Finset.mem_univ w, e⟩, rfl⟩))
    rw [StableHlo.held_sub_split (c.tc : Thread nD τ) (arrRefs_sub_ucRefs (pcs p).spec kit.win.arr_unscoped) (withArrays (pcs p).spec c V A), e,
      ← rarrays_held pcs a rdats p kit c (hshare c) A (withArrays (pcs p).spec c V A) (fun w => (withArrays_arr _ kit.win.arr_inj c V A w).symm)]
    isplitl [Ha Hr]
    · isplitl [Ha] <;> iassumption
    isplitl [Hp]; · iexact Hp
    unfold RDat.owesAt owesWithin
    rw [howed c (Fin.last _)]
    icases HO with ⟨%W, -, HO⟩; iexists W; iexact HO

end Region

variable (phinj : Function.Injective (cellOf (nD := nD) (pin pcs a)))

set_option backward.isDefEq.respectTransparency.types false in
/-- A kernel region as a host segment, from contents satisfying `I` to contents satisfying `I'`: proof data `rd V` at
    every contents `V` it may be entered at. -/
def region [∀ e, Nonempty (Val e)] [Infinite Name] [EQ.LandsIn (upEmb : UEmb _ 𝕄)] (I I' : Dev nD → Valuation τ sig Val → Prop) (S : Finset P)
    (rd : Valuation τ sig Val → (p : P) → (c : Dev nD) → RDat τ Val Ix Name U Lvl (pin pcs a p) c) (p : P) (hp : p ∈ S)
    (kit : PLaunchFacts (nD := nD) (τ := τ) pcs p) (hK : (pcs p).pre.K = 0)
    (hbody : ∀ V c, (rd V p c).BodyObligation defs₀ 𝒱₀ ι Set.univ)
    (howed : ∀ V c t, (rd V p c).owed t = 0) (hrec : ∀ V c, (rd V p c).recorded 0 = Set.univ)
    (hshare : ∀ V c w, (rd V p c).share w = fullShare)
    (hin : ∀ V c, scopedRest (pin pcs a p).spec c ⊢ (rd V p c).Φ 0)
    (hout : ∀ V c, (rd V p c).Φ (Fin.last (pin pcs a p).N) ⊢ scopedRest (pin pcs a p).spec c)
    (hA : ∀ V c w, (rd V p c).A w = V (Proc.devRef .tc (arrRef (pin pcs a p).spec w)))
    (h : ∀ c V A, I c V → (∀ w, (rd V p c).ArrAt w (pin pcs a p).N (A w)) → I' c (withArrays (pcs p).spec c V A)) :
    HostSeg (Ix := Ix) (Name := Name) (U := U) pcs defs₀ 𝒱₀ L lv where
  prog := Prog.lift (.customCall (entry p) ())
  pre := St pcs a EQ I S
  post := St pcs a EQ I' (S.erase p)
  run c {β} k K := by
    unfold St ghostOn
    rw [PerCore.ghostOn_erase pcs (fun _ => a) EQ hp c]
    have hw := fun V hI => RDat.RegionSeg.wp pcs a (rd V) ι phinj EQ defs₀ 𝒱₀ L lv
      (heldSeg pcs a ι defs₀ 𝒱₀ L lv (rd V) p kit hK (hbody V) (howed V) (hrec V) (hshare V) (hin V) (hout V) V (hA V)) c none hI k K
    dsimp only [heldSeg] at hw
    iintro ⟨Hk, Hbd, ⟨%V, %hI, Hh, HR, ⟨Hg, Ht⟩, Hrest⟩, HL⟩
    iapply (hw V fun u hu => nomatch hu)
    isplitl [Hk Hrest]
    · iintro ⟨Hbd, Hpost⟩
      iapply Hk
      isplitl [Hbd]; · iexact Hbd
      icases Hpost with ⟨%A, %hAt, Hh, HI⟩
      iexists withArrays (pcs p).spec c V A
      isplitr; · ipureintro; exact h c V A hI hAt
      isplitl [Hh]; · iexact Hh
      isplitl [HI] <;> iassumption
    isplitl [Hbd]; · iexact Hbd
    isplitl [Hh HR]
    · isplitl [Hh] <;> iassumption
    isplitl [HL]; · iexact HL
    isplitl [Hg] <;> iassumption

/-- The launch's ghost elements, one for the library and one for the regions carried in the thread state. -/
theorem fund (EP : Emb (URounds (GSem nD τ sig) Unit) (MT nD τ sig Ix Val Name U Lvl)) [EP.LandsIn (upEmb : UEmb _ 𝕄)] [EQ.LandsIn (upEmb : UEmb _ 𝕄)] :
    iprop(BI.own (EP (initOf (cells (pin pcs a) phinj) (launchToks (pin pcs a) phinj)))
        ∗ BI.own (EQ (initOf (cells (pin pcs a) phinj) (launchToks (pin pcs a) phinj))))
      ⊢ (|={Set.univ}=> iprop(BI.own (EP (initOf (cells (pin pcs a) phinj) (launchToks (pin pcs a) phinj)))
        ∗ bigSep Finset.univ fun c : Dev nD => ghostOn pcs a EQ Finset.univ c) : sProp 𝕄) := by
  iintro ⟨HP, HQ⟩
  imod (fund_ghost (pin pcs a) EQ phinj) $$ HQ with ⟨Hg, Ht⟩
  imodintro
  isplitl [HP]; · iexact HP
  unfold ghostOn PerCore.ghostOn
  simp only [bigSep_sep']
  isplitl [Hg] <;> iassumption

/-- What the fetch of window `w` at point `t` may leave in a staging buffer, the array being held at `V`. -/
def Got [∀ e, Nonempty (Val e)] (cfg : Cfg sig Λ₀) (V : Valuation τ sig Val) (w : Fin cfg.W) (t : Fin cfg.N) (x : (cfg.win w).block.Idx → Val (cfg.win w).elt) : Prop :=
  ∃ d, x = (cfg.win w).fill (cfg.grid.coords t) d (((cfg.win w).blk t).view.read Val (V (Proc.devRef .tc (arrRef cfg.spec w))))

/-- An input window the body leaves alone is found at every point at what the fetch there leaves. -/
theorem got [∀ e, Nonempty (Val e)] {cfg : Cfg sig Λ₀} {c : Dev nD} (rd : RDat τ Val Ix Name U Lvl cfg c) (V : Valuation τ sig Val) (w : Fin cfg.W)
    (hA : rd.A w = V (Proc.devRef .tc (arrRef cfg.spec w))) (hw : (cfg.win w).isOut = false)
    (hclip : ∀ t t' : Fin cfg.N, (cfg.win w).index t = (cfg.win w).index t' →
      (cfg.win w).clip (cfg.grid.coords t) = (cfg.win w).clip (cfg.grid.coords t'))
    (hkeep : ∀ t Y X, rd.after w t Y X → X = Y) (t : Fin cfg.N) (Y) (h : rd.Finds w t Y) : Got cfg V w t Y := by
  obtain ⟨d, hd⟩ := rd.finds_in_eq_fetched w hw hclip hkeep t Y h
  refine ⟨d, ?_⟩
  rw [hd, RDat.fetched, RDat.blockOf, hA]

/-- A region's exit leaves a buffer no output window of it is on as it was. -/
theorem keep [∀ e, Nonempty (Val e)] {cfg : Cfg sig Λ₀} {c : Dev nD} (rd : RDat τ Val Ix Name U Lvl cfg c) (V : Valuation τ sig Val)
    (hinj : Function.Injective (arrRef cfg.spec)) (hA : ∀ w, rd.A w = V (Proc.devRef .tc (arrRef cfg.spec w)))
    (A : (w : Fin cfg.W) → Buf Val ((cfg.win w).arr.view.loc (c.tc : Thread nD τ))) (hAt : ∀ w, rd.ArrAt w cfg.N (A w))
    (r : Ref sig .tc) (hr : ∀ w, arrRef cfg.spec w = r → (cfg.win w).isOut = false) :
    withArrays cfg.spec c V A (Proc.devRef .tc r) = V (Proc.devRef .tc r) := by
  by_cases h : ∃ w, arrRef cfg.spec w = r
  · obtain ⟨w, rfl⟩ := h
    rw [withArrays_arr cfg.spec hinj c V A w, ← hA w]
    have e := hAt w
    rw [RDat.ArrAt_in rd w (hr w rfl)] at e
    exact e
  · exact withArrays_of_ne cfg.spec c V A r fun w e => h ⟨w, e⟩

end Cert.Chain

end
-- ==== Proof.BodyI.lean ====
/- The kernels of the five calls, each run once at symbolic operands: what it stores is its payload at the blocks it reads. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Chain
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The certificate's own algebra: one copy of the rounds library's for the library, one for the thread state. -/
abbrev UU : Type := UR sig nD τ × UR sig nD τ

local notation "𝕄" => MT nD τ sig Unit (Elt F) ℕ UU ℕ

set_option maxHeartbeats 1000000 in
/-- The kernel of call 0 leaves the projected block in its output. -/
theorem sound0 (c : Dev nD) (i : grid0.Coords)
    (M1 : Memref sig .tc .vmem S2048x128 .f32) (h1 : M1.IsWhole) (x1 : Vec F S2048x128 .f32)
    (M2 : Memref sig .tc .vmem S1x128 .f32) (h2 : M2.IsWhole) (x2 : Vec F S1x128 .f32)
    (M3 : Memref sig .tc .vmem S1x128 .f32) (h3 : M3.IsWhole) (x3 : Vec F S1x128 .f32)
    (M4 : Memref sig .tc .vmem S128x256 .f32) (h4 : M4.IsWhole) (x4 : Vec F S128x256 .f32)
    (M5 : Memref sig .tc .vmem S2048x256 .bf16) (h5 : M5.IsWhole) (x5 : Vec F S2048x256 .bf16)
    (K : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5
        ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare (k0_pay1 i x1 x2 x3 x4)) -∗ K ⟨⟩))
      ⊢ wp frame (wpE (defs₀ (F := F)) Variants.none (c : Thread nD τ) none) Set.univ
          (cc0__ln_proj_body i M1 h1 M2 h2 M3 h3 M4 h4 M5 h5) K := by
  simp only [cc0__ln_proj_body_eq_skeleton]; unfold cc0__ln_proj_body_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  iexists _; isplitr; swap; · iexact H5
  ipureintro
  rw [Cert.Chain.read_full]
  repeat rw [View.readAt_full]

set_option maxHeartbeats 1000000 in
/-- The kernel of call 1 at its first column: the block is converted, the accumulator started. -/
theorem sound1_first (c : Dev nD) (i : grid1.Coords) (hk : (i 1).val = 0)
    (M2 : Memref sig .tc .vmem S2048x2048 .f32) (h2 : M2.IsWhole) (x2 : Vec F S2048x2048 .f32)
    (M3 : Memref sig .tc .vmem S2048x256 .bf16) (h3 : M3.IsWhole) (x3 : Vec F S2048x256 .bf16)
    (M4 : Memref sig .tc .vmem S1x256 .f32) (h4 : M4.IsWhole) (x4 : Vec F S1x256 .f32)
    (M5 : Memref sig .tc .vmem S256x128 .f32) (h5 : M5.IsWhole) (x5 : Vec F S256x128 .f32)
    (M6 : Memref sig .tc .vmem S2048x128 .bf16) (h6 : M6.IsWhole) (x6 : Vec F S2048x128 .bf16)
    (M7 : Memref sig .tc .vmem S2048x2048 .fp8e4m3) (h7 : M7.IsWhole) (x7 : Vec F S2048x2048 .fp8e4m3)
    (M8 : Memref sig .tc .vmem S2048x256 .f32) (h8 : M8.IsWhole) (x8 : Vec F S2048x256 .f32)
    (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare (k1_pay3 x2) ∗ owns (c : Thread nD τ) M8 fullShare (k1_pay5 x3 x2)) -∗ K ⟨⟩))
      ⊢ wp frame (wpE (defs₀ (F := F)) Variants.none (c : Thread nD τ) none) Set.univ
          (cc1__layer1_body i M2 h2 M3 h3 M4 h4 M5 h5 M6 h6 M7 h7 M8 h8) K := by
  have c1 : k1_cond1 i = 1#1 := by unfold k1_cond1; rw [hk]; decide
  have c4 : ¬ k1_cond4 i = 1#1 := by unfold k1_cond4; rw [hk]; decide
  have e : Scalar.cmpi .ne (Scalar.extui (Scalar.cmpi .eq (BitVec.ofNat 32 (i 1).val) 0#32) : BitVec 32) 0#32 = 1#1 := by rw [hk]; decide
  have g : ¬ Scalar.cmpi .ne (Scalar.extui (Scalar.cmpi .sgt (BitVec.ofNat 32 (i 1).val) 0#32) : BitVec 32) 0#32 = 1#1 := by rw [hk]; decide
  simp only [cc1__layer1_body_eq_skeleton]; unfold cc1__layer1_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec
  sl_step
  iapply Hk
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rw [Cert.Chain.read_full]
    repeat rw [View.readAt_full]
  iexists _; isplitr; swap; · iexact H8
  ipureintro
  rw [Cert.Chain.read_full]
  repeat rw [View.readAt_full]

set_option maxHeartbeats 1000000 in
/-- The kernel of call 1 between its first and last column: the block is converted and its product added. -/
theorem sound1_mid (c : Dev nD) (i : grid1.Coords) (hk : 0 < (i 1).val) (hk' : (i 1).val < 4)
    (M2 : Memref sig .tc .vmem S2048x2048 .f32) (h2 : M2.IsWhole) (x2 : Vec F S2048x2048 .f32)
    (M3 : Memref sig .tc .vmem S2048x256 .bf16) (h3 : M3.IsWhole) (x3 : Vec F S2048x256 .bf16)
    (M4 : Memref sig .tc .vmem S1x256 .f32) (h4 : M4.IsWhole) (x4 : Vec F S1x256 .f32)
    (M5 : Memref sig .tc .vmem S256x128 .f32) (h5 : M5.IsWhole) (x5 : Vec F S256x128 .f32)
    (M6 : Memref sig .tc .vmem S2048x128 .bf16) (h6 : M6.IsWhole) (x6 : Vec F S2048x128 .bf16)
    (M7 : Memref sig .tc .vmem S2048x2048 .fp8e4m3) (h7 : M7.IsWhole) (x7 : Vec F S2048x2048 .fp8e4m3)
    (M8 : Memref sig .tc .vmem S2048x256 .f32) (h8 : M8.IsWhole) (x8 : Vec F S2048x256 .f32)
    (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare (k1_pay3 x2) ∗ owns (c : Thread nD τ) M8 fullShare (k1_pay6 x3 x2 x8)) -∗ K ⟨⟩))
      ⊢ wp frame (wpE (defs₀ (F := F)) Variants.none (c : Thread nD τ) none) Set.univ
          (cc1__layer1_body i M2 h2 M3 h3 M4 h4 M5 h5 M6 h6 M7 h7 M8 h8) K := by
  have hm : (i 1).val = 1 ∨ (i 1).val = 2 ∨ (i 1).val = 3 := by omega
  have c1 : k1_cond1 i = 1#1 := by unfold k1_cond1; rcases hm with h | h | h <;> rw [h] <;> decide
  have c4 : ¬ k1_cond4 i = 1#1 := by unfold k1_cond4; rcases hm with h | h | h <;> rw [h] <;> decide
  have e : ¬ Scalar.cmpi .ne (Scalar.extui (Scalar.cmpi .eq (BitVec.ofNat 32 (i 1).val) 0#32) : BitVec 32) 0#32 = 1#1 := by
    rcases hm with h | h | h <;> rw [h] <;> decide
  have g : Scalar.cmpi .ne (Scalar.extui (Scalar.cmpi .sgt (BitVec.ofNat 32 (i 1).val) 0#32) : BitVec 32) 0#32 = 1#1 := by
    rcases hm with h | h | h <;> rw [h] <;> decide
  simp only [cc1__layer1_body_eq_skeleton]; unfold cc1__layer1_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec
  sl_step
  iapply Hk
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rw [Cert.Chain.read_full]
    repeat rw [View.readAt_full]
  iexists _; isplitr; swap; · iexact H8
  ipureintro
  rw [Cert.Chain.read_full]
  repeat rw [View.readAt_full]

set_option maxHeartbeats 1000000 in
/-- The kernel of call 1 at its last column: the block masked and converted, the accumulator finished, the layer's rows stored. -/
theorem sound1_last (c : Dev nD) (i : grid1.Coords) (hk : (i 1).val = 4)
    (M2 : Memref sig .tc .vmem S2048x2048 .f32) (h2 : M2.IsWhole) (x2 : Vec F S2048x2048 .f32)
    (M3 : Memref sig .tc .vmem S2048x256 .bf16) (h3 : M3.IsWhole) (x3 : Vec F S2048x256 .bf16)
    (M4 : Memref sig .tc .vmem S1x256 .f32) (h4 : M4.IsWhole) (x4 : Vec F S1x256 .f32)
    (M5 : Memref sig .tc .vmem S256x128 .f32) (h5 : M5.IsWhole) (x5 : Vec F S256x128 .f32)
    (M6 : Memref sig .tc .vmem S2048x128 .bf16) (h6 : M6.IsWhole) (x6 : Vec F S2048x128 .bf16)
    (M7 : Memref sig .tc .vmem S2048x2048 .fp8e4m3) (h7 : M7.IsWhole) (x7 : Vec F S2048x2048 .fp8e4m3)
    (M8 : Memref sig .tc .vmem S2048x256 .f32) (h8 : M8.IsWhole) (x8 : Vec F S2048x256 .f32)
    (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare (k1_pay7 (k1_pay13 (k1_pay12 (BitVec.ofNat 32 (i 1).val) (k1_pay1 x3) x2 x8) x4 x5) (k1_pay14 (BitVec.ofNat 32 (i 0).val)) (Scalar.ofBits .f32 0x00000000#32)) ∗ owns (c : Thread nD τ) M7 fullShare (k1_pay9 (BitVec.ofNat 32 (i 1).val) x2) ∗ owns (c : Thread nD τ) M8 fullShare (k1_pay12 (BitVec.ofNat 32 (i 1).val) (k1_pay1 x3) x2 x8)) -∗ K ⟨⟩))
      ⊢ wp frame (wpE (defs₀ (F := F)) Variants.none (c : Thread nD τ) none) Set.univ
          (cc1__layer1_body i M2 h2 M3 h3 M4 h4 M5 h5 M6 h6 M7 h7 M8 h8) K := by
  have c1 : ¬ k1_cond1 i = 1#1 := by unfold k1_cond1; rw [hk]; decide
  have c4 : k1_cond4 i = 1#1 := by unfold k1_cond4; rw [hk]; decide
  have e : ¬ Scalar.cmpi .ne (Scalar.extui (Scalar.cmpi .eq (BitVec.ofNat 32 (i 1).val) 0#32) : BitVec 32) 0#32 = 1#1 := by rw [hk]; decide
  have g : Scalar.cmpi .ne (Scalar.extui (Scalar.cmpi .sgt (BitVec.ofNat 32 (i 1).val) 0#32) : BitVec 32) 0#32 = 1#1 := by rw [hk]; decide
  simp only [cc1__layer1_body_eq_skeleton]; unfold cc1__layer1_body_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec
  sl_step
  iapply Hk
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rw [Cert.Chain.read_full]
    repeat rw [View.readAt_full]
    dsimp only
    unfold sound1_last.sl.v27 sound1_last.sl.H8_1 sound1_last.sl.cst_22
    repeat rw [View.readAt_full]
    rw [View.readCov_unit_zero M8.view (by funext a; fin_cases a <;> rfl)]
  isplitl [H7]
  · iexists _; isplitr; swap; · iexact H7
    ipureintro
    rw [Cert.Chain.read_full]
    repeat rw [View.readAt_full]
  iexists _; isplitr; swap; · iexact H8
  ipureintro
  unfold sound1_last.sl.H8_1
  rw [Cert.Chain.read_full]
  repeat rw [View.readAt_full]

set_option maxHeartbeats 1000000 in
/-- The kernel of call 2 leaves the layer's projected rows in its output. -/
theorem sound2 (c : Dev nD) (i : grid2.Coords)
    (M1 : Memref sig .tc .vmem S1280x10240 .fp8e4m3) (h1 : M1.IsWhole) (x1 : Vec F S1280x10240 .fp8e4m3)
    (M2 : Memref sig .tc .vmem S10240x128 .bf16) (h2 : M2.IsWhole) (x2 : Vec F S10240x128 .bf16)
    (M3 : Memref sig .tc .vmem S1x128 .f32) (h3 : M3.IsWhole) (x3 : Vec F S1x128 .f32)
    (M4 : Memref sig .tc .vmem S128x64 .f32) (h4 : M4.IsWhole) (x4 : Vec F S128x64 .f32)
    (M5 : Memref sig .tc .vmem S1280x64 .bf16) (h5 : M5.IsWhole) (x5 : Vec F S1280x64 .bf16)
    (K : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5
        ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare (k2_pay1 i x1 x2 x3 x4)) -∗ K ⟨⟩))
      ⊢ wp frame (wpE (defs₀ (F := F)) Variants.none (c : Thread nD τ) none) Set.univ
          (cc2__layer_q8_body i M1 h1 M2 h2 M3 h3 M4 h4 M5 h5) K := by
  simp only [cc2__layer_q8_body_eq_skeleton]; unfold cc2__layer_q8_body_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  iexists _; isplitr; swap; · iexact H5
  ipureintro
  rw [Cert.Chain.read_full]
  repeat rw [View.readAt_full]

set_option maxHeartbeats 1000000 in
/-- The kernel of call 3 leaves the layer's projected rows in its output. -/
theorem sound3 (c : Dev nD) (i : grid3.Coords)
    (M1 : Memref sig .tc .vmem S1280x10240 .fp8e4m3) (h1 : M1.IsWhole) (x1 : Vec F S1280x10240 .fp8e4m3)
    (M2 : Memref sig .tc .vmem S10240x64 .bf16) (h2 : M2.IsWhole) (x2 : Vec F S10240x64 .bf16)
    (M3 : Memref sig .tc .vmem S1x64 .f32) (h3 : M3.IsWhole) (x3 : Vec F S1x64 .f32)
    (M4 : Memref sig .tc .vmem S64x128 .f32) (h4 : M4.IsWhole) (x4 : Vec F S64x128 .f32)
    (M5 : Memref sig .tc .vmem S1280x128 .bf16) (h5 : M5.IsWhole) (x5 : Vec F S1280x128 .bf16)
    (K : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5
        ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare (k3_pay1 i x1 x2 x3 x4)) -∗ K ⟨⟩))
      ⊢ wp frame (wpE (defs₀ (F := F)) Variants.none (c : Thread nD τ) none) Set.univ
          (cc3__layer_q8_body i M1 h1 M2 h2 M3 h3 M4 h4 M5 h5) K := by
  simp only [cc3__layer_q8_body_eq_skeleton]; unfold cc3__layer_q8_body_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  iexists _; isplitr; swap; · iexact H5
  ipureintro
  rw [Cert.Chain.read_full]
  repeat rw [View.readAt_full]

set_option maxHeartbeats 1000000 in
/-- The kernel of call 4 leaves the last layer's rows in its output. -/
theorem sound4 (c : Dev nD) (i : grid4.Coords)
    (M1 : Memref sig .tc .vmem S1280x10240 .fp8e4m3) (h1 : M1.IsWhole) (x1 : Vec F S1280x10240 .fp8e4m3)
    (M2 : Memref sig .tc .vmem S10240x128 .bf16) (h2 : M2.IsWhole) (x2 : Vec F S10240x128 .bf16)
    (M3 : Memref sig .tc .vmem S1x128 .f32) (h3 : M3.IsWhole) (x3 : Vec F S1x128 .f32)
    (M4 : Memref sig .tc .vmem S1280x128 .f32) (h4 : M4.IsWhole) (x4 : Vec F S1280x128 .f32)
    (K : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4
        ∗ (iprop(owns (c : Thread nD τ) M1 fullShare x1 ∗ owns (c : Thread nD τ) M2 fullShare x2 ∗ owns (c : Thread nD τ) M3 fullShare x3 ∗ owns (c : Thread nD τ) M4 fullShare (k4_pay1 x1 x2 x3)) -∗ K ⟨⟩))
      ⊢ wp frame (wpE (defs₀ (F := F)) Variants.none (c : Thread nD τ) none) Set.univ
          (cc4__layer_q8_body i M1 h1 M2 h2 M3 h3 M4 h4) K := by
  simp only [cc4__layer_q8_body_eq_skeleton]; unfold cc4__layer_q8_body_skel
  unfold owns
  iintro ⟨⟨%f1, %hf1, H1⟩, ⟨%f2, %hf2, H2⟩, ⟨%f3, %hf3, H3⟩, ⟨%f4, %hf4, H4⟩, Hk⟩
  subst hf1 hf2 hf3 hf4
  sl_exec
  sl_step
  iapply Hk
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  iexists _; isplitr; swap; · iexact H4
  ipureintro
  rw [Cert.Chain.read_full]
  repeat rw [View.readAt_full]

end Cert.KernelIdeal.Body

end
-- ==== Proof.RunI.lean ====
/- The five calls of @main as segments of one program, what each may leave in its results constrained by predicates
   chosen later (`Preds`), and the run of the whole program from them. -/
module

public import proofs.«01_k».proof.Proof.BodyI
public import proofs.«01_k».proof.Proof.Gen.KernelIdeal.Regions

@[expose] public section

set_option maxRecDepth 16384

noncomputable section

namespace Cert.KernelIdeal.Run

open Cert.KernelIdeal Cert.KernelIdeal.Gen Cert.KernelIdeal.Body Cert.Chain
open Idealize.ShloMosaic.Pipeline
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What is said of the contents each call's body leaves: per call and result window, at the contents `V` the call was
    entered with and at a point. `Acc V n` is said of call 1's accumulator before point `n`. -/
structure Preds (F : FTy → Type) [FloatOps F] where
  P0 : Valuation τ sig (Elt F) → Fin cfg0.N → Vec F S2048x256 .bf16 → Prop
  Ph : Valuation τ sig (Elt F) → Fin cfg1.N → Vec F S2048x128 .bf16 → Prop
  Pq : Valuation τ sig (Elt F) → Fin cfg1.N → Vec F S2048x2048 .fp8e4m3 → Prop
  Acc : Valuation τ sig (Elt F) → ℕ → Vec F S2048x256 .f32 → Prop
  P2 : Valuation τ sig (Elt F) → Fin cfg2.N → Vec F S1280x64 .bf16 → Prop
  P3 : Valuation τ sig (Elt F) → Fin cfg3.N → Vec F S1280x128 .bf16 → Prop
  P4 : Valuation τ sig (Elt F) → Fin cfg4.N → Vec F S1280x128 .f32 → Prop

/-- The predicates hold of what the bodies store, at any blocks the fetches may leave. -/
structure Holds (S : Preds F) : Prop where
  h0 : ∀ V t x1 x2 x3 x4, Got cfg0 V 0 t x1 → Got cfg0 V 1 t x2 → Got cfg0 V 2 t x3 → Got cfg0 V 3 t x4 →
    S.P0 V t (k0_pay1 (grid0.coords t) x1 x2 x3 x4)
  acc0 : ∀ V x, S.Acc V 0 x
  first : ∀ V t x2 x3, (grid1.coords t 1).val = 0 → Got cfg1 V 0 t x2 → Got cfg1 V 1 t x3 →
    S.Pq V t (k1_pay3 x2) ∧ S.Acc V (t.val + 1) (k1_pay5 x3 x2)
  mid : ∀ V t x2 x3 x8, 0 < (grid1.coords t 1).val → (grid1.coords t 1).val < 4 → Got cfg1 V 0 t x2 → Got cfg1 V 1 t x3 → S.Acc V t.val x8 →
    S.Pq V t (k1_pay3 x2) ∧ S.Acc V (t.val + 1) (k1_pay6 x3 x2 x8)
  last : ∀ V t x2 x3 x4 x5 x8, (grid1.coords t 1).val = 4 → Got cfg1 V 0 t x2 → Got cfg1 V 1 t x3 → Got cfg1 V 2 t x4 → Got cfg1 V 3 t x5 → S.Acc V t.val x8 →
    S.Ph V t (k1_pay7 (k1_pay13 (k1_pay12 (BitVec.ofNat 32 (grid1.coords t 1).val) (k1_pay1 x3) x2 x8) x4 x5) (k1_pay14 (BitVec.ofNat 32 (grid1.coords t 0).val)) (Scalar.ofBits .f32 0))
      ∧ S.Pq V t (k1_pay9 (BitVec.ofNat 32 (grid1.coords t 1).val) x2)
      ∧ S.Acc V (t.val + 1) (k1_pay12 (BitVec.ofNat 32 (grid1.coords t 1).val) (k1_pay1 x3) x2 x8)
  h2 : ∀ V t x1 x2 x3 x4, Got cfg2 V 0 t x1 → Got cfg2 V 1 t x2 → Got cfg2 V 2 t x3 → Got cfg2 V 3 t x4 →
    S.P2 V t (k2_pay1 (grid2.coords t) x1 x2 x3 x4)
  h3 : ∀ V t x1 x2 x3 x4, Got cfg3 V 0 t x1 → Got cfg3 V 1 t x2 → Got cfg3 V 2 t x3 → Got cfg3 V 3 t x4 →
    S.P3 V t (k3_pay1 (grid3.coords t) x1 x2 x3 x4)
  h4 : ∀ V t x1 x2 x3, Got cfg4 V 0 t x1 → Got cfg4 V 1 t x2 → Got cfg4 V 2 t x3 → S.P4 V t (k4_pay1 x1 x2 x3)

/-- Call 0's proof data at entry contents `V`: the inputs left alone, the result under its predicate. -/
def rd0 (S : Preds F) (V : Valuation τ sig (Elt F)) (c : Dev nD) : RDat τ (Elt F) Unit ℕ UU ℕ cfg0 c where
  A w := V (Proc.devRef .tc (arrRef spec0 w))
  after := fun | 0 => fun _ Y X => X = Y | 1 => fun _ Y X => X = Y | 2 => fun _ Y X => X = Y | 3 => fun _ Y X => X = Y | 4 => fun t _ X => S.P0 V t X | ⟨_ + 5, h⟩ => absurd h (Nat.not_lt.2 (Nat.le_add_left _ _))
  Φ _ := scopedRest spec0 c
  q _ := fullShare
  owed _ := 0

/-- Call 2's proof data at entry contents `V`: the inputs left alone, the result under its predicate. -/
def rd2 (S : Preds F) (V : Valuation τ sig (Elt F)) (c : Dev nD) : RDat τ (Elt F) Unit ℕ UU ℕ cfg2 c where
  A w := V (Proc.devRef .tc (arrRef spec2 w))
  after := fun | 0 => fun _ Y X => X = Y | 1 => fun _ Y X => X = Y | 2 => fun _ Y X => X = Y | 3 => fun _ Y X => X = Y | 4 => fun t _ X => S.P2 V t X | ⟨_ + 5, h⟩ => absurd h (Nat.not_lt.2 (Nat.le_add_left _ _))
  Φ _ := scopedRest spec2 c
  q _ := fullShare
  owed _ := 0

/-- Call 3's proof data at entry contents `V`: the inputs left alone, the result under its predicate. -/
def rd3 (S : Preds F) (V : Valuation τ sig (Elt F)) (c : Dev nD) : RDat τ (Elt F) Unit ℕ UU ℕ cfg3 c where
  A w := V (Proc.devRef .tc (arrRef spec3 w))
  after := fun | 0 => fun _ Y X => X = Y | 1 => fun _ Y X => X = Y | 2 => fun _ Y X => X = Y | 3 => fun _ Y X => X = Y | 4 => fun t _ X => S.P3 V t X | ⟨_ + 5, h⟩ => absurd h (Nat.not_lt.2 (Nat.le_add_left _ _))
  Φ _ := scopedRest spec3 c
  q _ := fullShare
  owed _ := 0

/-- Call 4's proof data at entry contents `V`: the inputs left alone, the result under its predicate. -/
def rd4 (S : Preds F) (V : Valuation τ sig (Elt F)) (c : Dev nD) : RDat τ (Elt F) Unit ℕ UU ℕ cfg4 c where
  A w := V (Proc.devRef .tc (arrRef spec4 w))
  after := fun | 0 => fun _ Y X => X = Y | 1 => fun _ Y X => X = Y | 2 => fun _ Y X => X = Y | 3 => fun t _ X => S.P4 V t X | ⟨_ + 4, h⟩ => absurd h (Nat.not_lt.2 (Nat.le_add_left _ _))
  Φ _ := scopedRest spec4 c
  q _ := fullShare
  owed _ := 0

/-- Call 1's proof data at entry contents `V`: the inputs left alone, the hidden layer under its predicate where it is
    stored, the copy of the adjacency under its own, the accumulator carried in the invariant. -/
def rd1 (S : Preds F) (V : Valuation τ sig (Elt F)) (c : Dev nD) : RDat τ (Elt F) Unit ℕ UU ℕ cfg1 c where
  A w := V (Proc.devRef .tc (arrRef spec1 w))
  after := fun | 0 => fun _ Y X => X = Y | 1 => fun _ Y X => X = Y | 2 => fun _ Y X => X = Y | 3 => fun _ Y X => X = Y | 4 => fun t _ X => (grid1.coords t 1).val = 4 → S.Ph V t X | 5 => fun t _ X => S.Pq V t X | ⟨_ + 6, h⟩ => absurd h (Nat.not_lt.2 (Nat.le_add_left _ _))
  Φ t := iprop((∃ x, ⌜S.Acc V t.val x⌝ ∗ owns (c : Thread nD τ) (Memref.whole cc1_scratch0) fullShare x) ∗ scopedRestBut spec1 c [cc1_scratch0])
  q _ := fullShare
  owed _ := 0

/-- The five calls' proof data as one family. -/
def rds (S : Preds F) (V : Valuation τ sig (Elt F)) : (p : Fin 5) → (c : Dev nD) → RDat τ (Elt F) Unit ℕ UU ℕ (pin (pcfgs (F := F)) adm p) c
  | 0 => rd0 S V | 1 => rd1 S V | 2 => rd2 S V | 3 => rd3 S V | 4 => rd4 S V

/-- Call 0's body obligation. -/
theorem body0 (S : Preds F) (hS : Holds S) (V : Valuation τ sig (Elt F)) (c : Dev nD) :
    (rd0 S V c).BodyObligation defs₀ Variants.none () Set.univ := by
  intro t Y hY
  have g0 : Got cfg0 V 0 t (Y 0) := got (rd0 S V c) V 0 rfl rfl (fun t t' h => funext fun a => congrArg (fun n => Pipeline.Clip.of n ((cfg0.win 0).size a) ((cfg0.win 0).shape.size a)) (congrFun h a)) (fun _ _ _ h => h) t _ (hY 0)
  have g1 : Got cfg0 V 1 t (Y 1) := got (rd0 S V c) V 1 rfl rfl (fun _ _ _ => rfl) (fun _ _ _ h => h) t _ (hY 1)
  have g2 : Got cfg0 V 2 t (Y 2) := got (rd0 S V c) V 2 rfl rfl (fun _ _ _ => rfl) (fun _ _ _ h => h) t _ (hY 2)
  have g3 : Got cfg0 V 3 t (Y 3) := got (rd0 S V c) V 3 rfl rfl (fun _ _ _ => rfl) (fun _ _ _ h => h) t _ (hY 3)
  rw [bigSep_W0, bigSep_W0]
  rw [show (rd0 S V c).Φ t.succ = (rd0 S V c).Φ t.castSucc from rfl]
  change _ ⊢ wp frame (wpE (defs₀ (F := F)) Variants.none (c : Thread nD τ) none) Set.univ (bodyAt0 t) _
  iintro ⟨HΦ, HO, H0, H1, H2, H3, H4⟩
  iapply (sound0 c (grid0.coords t) _ _ (Y 0) _ _ (Y 1) _ _ (Y 2) _ _ (Y 3) _ _ (Y 4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  isplitl [H3]
  · iexists Y 3; isplitr; · ipureintro; exact rfl
    iexact H3
  iexists _; isplitr; swap; · iexact H4
  ipureintro; exact hS.h0 V t (Y 0) (Y 1) (Y 2) (Y 3) g0 g1 g2 g3

/-- Call 2's body obligation. -/
theorem body2 (S : Preds F) (hS : Holds S) (V : Valuation τ sig (Elt F)) (c : Dev nD) :
    (rd2 S V c).BodyObligation defs₀ Variants.none () Set.univ := by
  intro t Y hY
  have g0 : Got cfg2 V 0 t (Y 0) := got (rd2 S V c) V 0 rfl rfl (fun t t' h => funext fun a => congrArg (fun n => Pipeline.Clip.of n ((cfg2.win 0).size a) ((cfg2.win 0).shape.size a)) (congrFun h a)) (fun _ _ _ h => h) t _ (hY 0)
  have g1 : Got cfg2 V 1 t (Y 1) := got (rd2 S V c) V 1 rfl rfl (fun _ _ _ => rfl) (fun _ _ _ h => h) t _ (hY 1)
  have g2 : Got cfg2 V 2 t (Y 2) := got (rd2 S V c) V 2 rfl rfl (fun _ _ _ => rfl) (fun _ _ _ h => h) t _ (hY 2)
  have g3 : Got cfg2 V 3 t (Y 3) := got (rd2 S V c) V 3 rfl rfl (fun _ _ _ => rfl) (fun _ _ _ h => h) t _ (hY 3)
  rw [bigSep_W2, bigSep_W2]
  rw [show (rd2 S V c).Φ t.succ = (rd2 S V c).Φ t.castSucc from rfl]
  change _ ⊢ wp frame (wpE (defs₀ (F := F)) Variants.none (c : Thread nD τ) none) Set.univ (bodyAt2 t) _
  iintro ⟨HΦ, HO, H0, H1, H2, H3, H4⟩
  iapply (sound2 c (grid2.coords t) _ _ (Y 0) _ _ (Y 1) _ _ (Y 2) _ _ (Y 3) _ _ (Y 4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  isplitl [H3]
  · iexists Y 3; isplitr; · ipureintro; exact rfl
    iexact H3
  iexists _; isplitr; swap; · iexact H4
  ipureintro; exact hS.h2 V t (Y 0) (Y 1) (Y 2) (Y 3) g0 g1 g2 g3

/-- Call 3's body obligation. -/
theorem body3 (S : Preds F) (hS : Holds S) (V : Valuation τ sig (Elt F)) (c : Dev nD) :
    (rd3 S V c).BodyObligation defs₀ Variants.none () Set.univ := by
  intro t Y hY
  have g0 : Got cfg3 V 0 t (Y 0) := got (rd3 S V c) V 0 rfl rfl (fun t t' h => funext fun a => congrArg (fun n => Pipeline.Clip.of n ((cfg3.win 0).size a) ((cfg3.win 0).shape.size a)) (congrFun h a)) (fun _ _ _ h => h) t _ (hY 0)
  have g1 : Got cfg3 V 1 t (Y 1) := got (rd3 S V c) V 1 rfl rfl (fun _ _ _ => rfl) (fun _ _ _ h => h) t _ (hY 1)
  have g2 : Got cfg3 V 2 t (Y 2) := got (rd3 S V c) V 2 rfl rfl (fun _ _ _ => rfl) (fun _ _ _ h => h) t _ (hY 2)
  have g3 : Got cfg3 V 3 t (Y 3) := got (rd3 S V c) V 3 rfl rfl (fun _ _ _ => rfl) (fun _ _ _ h => h) t _ (hY 3)
  rw [bigSep_W3, bigSep_W3]
  rw [show (rd3 S V c).Φ t.succ = (rd3 S V c).Φ t.castSucc from rfl]
  change _ ⊢ wp frame (wpE (defs₀ (F := F)) Variants.none (c : Thread nD τ) none) Set.univ (bodyAt3 t) _
  iintro ⟨HΦ, HO, H0, H1, H2, H3, H4⟩
  iapply (sound3 c (grid3.coords t) _ _ (Y 0) _ _ (Y 1) _ _ (Y 2) _ _ (Y 3) _ _ (Y 4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  isplitl [H3]
  · iexists Y 3; isplitr; · ipureintro; exact rfl
    iexact H3
  iexists _; isplitr; swap; · iexact H4
  ipureintro; exact hS.h3 V t (Y 0) (Y 1) (Y 2) (Y 3) g0 g1 g2 g3

/-- Call 4's body obligation. -/
theorem body4 (S : Preds F) (hS : Holds S) (V : Valuation τ sig (Elt F)) (c : Dev nD) :
    (rd4 S V c).BodyObligation defs₀ Variants.none () Set.univ := by
  intro t Y hY
  have g0 : Got cfg4 V 0 t (Y 0) := got (rd4 S V c) V 0 rfl rfl (fun t t' h => funext fun a => congrArg (fun n => Pipeline.Clip.of n ((cfg4.win 0).size a) ((cfg4.win 0).shape.size a)) (congrFun h a)) (fun _ _ _ h => h) t _ (hY 0)
  have g1 : Got cfg4 V 1 t (Y 1) := got (rd4 S V c) V 1 rfl rfl (fun _ _ _ => rfl) (fun _ _ _ h => h) t _ (hY 1)
  have g2 : Got cfg4 V 2 t (Y 2) := got (rd4 S V c) V 2 rfl rfl (fun _ _ _ => rfl) (fun _ _ _ h => h) t _ (hY 2)
  rw [bigSep_W4, bigSep_W4]
  rw [show (rd4 S V c).Φ t.succ = (rd4 S V c).Φ t.castSucc from rfl]
  change _ ⊢ wp frame (wpE (defs₀ (F := F)) Variants.none (c : Thread nD τ) none) Set.univ (bodyAt4 t) _
  iintro ⟨HΦ, HO, H0, H1, H2, H3⟩
  iapply (sound4 c (grid4.coords t) _ _ (Y 0) _ _ (Y 1) _ _ (Y 2) _ _ (Y 3) _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  iexists _; isplitr; swap; · iexact H3
  ipureintro; exact hS.h4 V t (Y 0) (Y 1) (Y 2) g0 g1 g2

/-- Call 1's body obligation, by the three kinds of point: the first, the middle and the last of a row of blocks. -/
theorem body1 (S : Preds F) (hS : Holds S) (V : Valuation τ sig (Elt F)) (c : Dev nD) :
    (rd1 S V c).BodyObligation defs₀ Variants.none () Set.univ := by
  intro t Y hY
  have g0 : Got cfg1 V 0 t (Y 0) := got (rd1 S V c) V 0 rfl rfl (fun t t' h => funext fun a => congrArg (fun n => Pipeline.Clip.of n ((cfg1.win 0).size a) ((cfg1.win 0).shape.size a)) (congrFun h a)) (fun _ _ _ h => h) t _ (hY 0)
  have g1 : Got cfg1 V 1 t (Y 1) := got (rd1 S V c) V 1 rfl rfl (fun _ _ _ => rfl) (fun _ _ _ h => h) t _ (hY 1)
  have g2 : Got cfg1 V 2 t (Y 2) := got (rd1 S V c) V 2 rfl rfl (fun _ _ _ => rfl) (fun _ _ _ h => h) t _ (hY 2)
  have g3 : Got cfg1 V 3 t (Y 3) := got (rd1 S V c) V 3 rfl rfl (fun _ _ _ => rfl) (fun _ _ _ h => h) t _ (hY 3)
  rw [bigSep_W1, bigSep_W1]
  rw [show (rd1 S V c).Φ t.castSucc = iprop((∃ x, ⌜S.Acc V t.val x⌝ ∗ owns (c : Thread nD τ) (Memref.whole cc1_scratch0) fullShare x) ∗ scopedRestBut spec1 c [cc1_scratch0]) from rfl,
    show (rd1 S V c).Φ t.succ = iprop((∃ x, ⌜S.Acc V (t.val + 1) x⌝ ∗ owns (c : Thread nD τ) (Memref.whole cc1_scratch0) fullShare x) ∗ scopedRestBut spec1 c [cc1_scratch0]) from rfl]
  change _ ⊢ wp frame (wpE (defs₀ (F := F)) Variants.none (c : Thread nD τ) none) Set.univ (bodyAt1 t) _
  iintro ⟨⟨⟨%x, %hx, HS⟩, HR⟩, HO, H0, H1, H2, H3, H4, H5⟩
  have h5 : (grid1.coords t 1).val < 5 := (grid1.coords t 1).isLt
  obtain hk | ⟨hk, hk'⟩ | hk : (grid1.coords t 1).val = 0 ∨ (0 < (grid1.coords t 1).val ∧ (grid1.coords t 1).val < 4) ∨ (grid1.coords t 1).val = 4 := by omega
  · iapply (sound1_first c (grid1.coords t) hk _ _ (Y 0) _ _ (Y 1) _ _ (Y 2) _ _ (Y 3) _ _ (Y 4) _ _ (Y 5) _ _ x _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS HR]
    · isplitl [HS]
      · iexists _; isplitr; swap; · iexact HS
        ipureintro; exact (hS.first V t (Y 0) (Y 1) hk g0 g1).2
      iexact HR
    isplitl [HO]; · iexact HO
    isplitl [H0]
    · iexists Y 0; isplitr; · ipureintro; exact rfl
      iexact H0
    isplitl [H1]
    · iexists Y 1; isplitr; · ipureintro; exact rfl
      iexact H1
    isplitl [H2]
    · iexists Y 2; isplitr; · ipureintro; exact rfl
      iexact H2
    isplitl [H3]
    · iexists Y 3; isplitr; · ipureintro; exact rfl
      iexact H3
    isplitl [H4]
    · iexists _; isplitr; swap; · iexact H4
      ipureintro; exact fun h => absurd h (by omega)
    iexists _; isplitr; swap; · iexact H5
    ipureintro; exact (hS.first V t (Y 0) (Y 1) hk g0 g1).1
  · iapply (sound1_mid c (grid1.coords t) hk hk' _ _ (Y 0) _ _ (Y 1) _ _ (Y 2) _ _ (Y 3) _ _ (Y 4) _ _ (Y 5) _ _ x _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS HR]
    · isplitl [HS]
      · iexists _; isplitr; swap; · iexact HS
        ipureintro; exact (hS.mid V t (Y 0) (Y 1) x hk hk' g0 g1 hx).2
      iexact HR
    isplitl [HO]; · iexact HO
    isplitl [H0]
    · iexists Y 0; isplitr; · ipureintro; exact rfl
      iexact H0
    isplitl [H1]
    · iexists Y 1; isplitr; · ipureintro; exact rfl
      iexact H1
    isplitl [H2]
    · iexists Y 2; isplitr; · ipureintro; exact rfl
      iexact H2
    isplitl [H3]
    · iexists Y 3; isplitr; · ipureintro; exact rfl
      iexact H3
    isplitl [H4]
    · iexists _; isplitr; swap; · iexact H4
      ipureintro; exact fun h => absurd h (by omega)
    iexists _; isplitr; swap; · iexact H5
    ipureintro; exact (hS.mid V t (Y 0) (Y 1) x hk hk' g0 g1 hx).1
  · iapply (sound1_last c (grid1.coords t) hk _ _ (Y 0) _ _ (Y 1) _ _ (Y 2) _ _ (Y 3) _ _ (Y 4) _ _ (Y 5) _ _ x _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS HR]
    · isplitl [HS]
      · iexists _; isplitr; swap; · iexact HS
        ipureintro; exact (hS.last V t (Y 0) (Y 1) (Y 2) (Y 3) x hk g0 g1 g2 g3 hx).2.2
      iexact HR
    isplitl [HO]; · iexact HO
    isplitl [H0]
    · iexists Y 0; isplitr; · ipureintro; exact rfl
      iexact H0
    isplitl [H1]
    · iexists Y 1; isplitr; · ipureintro; exact rfl
      iexact H1
    isplitl [H2]
    · iexists Y 2; isplitr; · ipureintro; exact rfl
      iexact H2
    isplitl [H3]
    · iexists Y 3; isplitr; · ipureintro; exact rfl
      iexact H3
    isplitl [H4]
    · iexists _; isplitr; swap; · iexact H4
      ipureintro; exact fun _ => (hS.last V t (Y 0) (Y 1) (Y 2) (Y 3) x hk g0 g1 g2 g3 hx).1
    iexists _; isplitr; swap; · iexact H5
    ipureintro; exact (hS.last V t (Y 0) (Y 1) (Y 2) (Y 3) x hk g0 g1 g2 g3 hx).2.1

/-- The predicate `I j` before item `j` of @main carried over every item: the host stretches and the five calls. -/
structure Links (S : Preds F) (I : ℕ → Dev nD → Valuation τ sig (Elt F) → Prop) : Prop where
  o0 : ∀ c V, I 0 c V → I 1 c (StableHlo.after hostOps0 V)
  r0 : ∀ c V (A : (w : Fin 5) → Buf (Elt F) ((cfg0.win w).arr.view.loc (c.tc : Thread nD τ))), I 1 c V → (∀ w, (rd0 S V c).ArrAt w cfg0.N (A w)) → I 2 c (withArrays spec0 c V A)
  o1 : ∀ c V, I 2 c V → I 3 c (StableHlo.after hostOps1 V)
  r1 : ∀ c V (A : (w : Fin 6) → Buf (Elt F) ((cfg1.win w).arr.view.loc (c.tc : Thread nD τ))), I 3 c V → (∀ w, (rd1 S V c).ArrAt w cfg1.N (A w)) → I 4 c (withArrays spec1 c V A)
  o2 : ∀ c V, I 4 c V → I 5 c (StableHlo.after hostOps2 V)
  r2 : ∀ c V (A : (w : Fin 5) → Buf (Elt F) ((cfg2.win w).arr.view.loc (c.tc : Thread nD τ))), I 5 c V → (∀ w, (rd2 S V c).ArrAt w cfg2.N (A w)) → I 6 c (withArrays spec2 c V A)
  o3 : ∀ c V, I 6 c V → I 7 c (StableHlo.after hostOps3 V)
  r3 : ∀ c V (A : (w : Fin 5) → Buf (Elt F) ((cfg3.win w).arr.view.loc (c.tc : Thread nD τ))), I 7 c V → (∀ w, (rd3 S V c).ArrAt w cfg3.N (A w)) → I 8 c (withArrays spec3 c V A)
  o4 : ∀ c V, I 8 c V → I 9 c (StableHlo.after hostOps4 V)
  r4 : ∀ c V (A : (w : Fin 4) → Buf (Elt F) ((cfg4.win w).arr.view.loc (c.tc : Thread nD τ))), I 9 c V → (∀ w, (rd4 S V c).ArrAt w cfg4.N (A w)) → I 10 c (withArrays spec4 c V A)

section Segs

variable (S : Preds F) (hS : Holds S) (I : ℕ → Dev nD → Valuation τ sig (Elt F) → Prop) (hI : Links S I)

/-- The pipelines not entered before item `j`. -/
def left : ℕ → Finset (Fin 5)
  | 0 => Finset.univ
  | k + 1 => if h : k < 5 then (left k).erase ⟨k, h⟩ else left k

include hS in
/-- Call 1 is entered with its accumulator at any contents. -/
theorem entry1 (V : Valuation τ sig (Elt F)) (c : Dev nD) : (scopedRest spec1 c : sProp 𝕄) ⊢ (rd1 S V c).Φ 0 := by
  rw [show (rd1 S V c).Φ 0 = iprop((∃ x, ⌜S.Acc V 0 x⌝ ∗ owns (c : Thread nD τ) (Memref.whole cc1_scratch0) fullShare x) ∗ scopedRestBut spec1 c [cc1_scratch0]) from rfl,
    scopedRest1_split]
  iintro ⟨⟨%f, Hf⟩, HR⟩
  isplitl [Hf]
  · iexists f; isplitr; · ipureintro; exact hS.acc0 V f
    rw [owns_whole]; iexact Hf
  iexact HR

/-- Call 1 hands its accumulator back at whatever contents it ends with. -/
theorem exit1 (V : Valuation τ sig (Elt F)) (c : Dev nD) : (rd1 S V c).Φ (Fin.last cfg1.N) ⊢ (scopedRest spec1 c : sProp 𝕄) := by
  rw [show (rd1 S V c).Φ (Fin.last cfg1.N) = iprop((∃ x, ⌜S.Acc V cfg1.N x⌝ ∗ owns (c : Thread nD τ) (Memref.whole cc1_scratch0) fullShare x) ∗ scopedRestBut spec1 c [cc1_scratch0]) from rfl,
    scopedRest1_split]
  iintro ⟨⟨%x, -, Hf⟩, HR⟩
  isplitl [Hf]
  · iexists x; rw [owns_whole]; exact .rfl
  iexact HR

/-- The host stretch before call 0. -/
def host0 : HostSeg (Ix := Unit) (Name := ℕ) (U := UU) (Lvl := ℕ) (pcfgs (F := F)) defs₀ Variants.none (fun _ => ∅) (fun _ _ => 0) :=
  Chain.ops pcfgs adm embR defs₀ Variants.none _ _ (I 0) (I 1) (left 0) hostOps0
    (fun op h => Pipeline.sub_ucRefs op ((List.forall_iff_forall_mem.mp hostOps0_sub) op h))
    (fun op h => (List.forall_iff_forall_mem.mp hostOps0_fresh) op h) hI.o0

/-- Call 0 is entered with its scoped buffers at any contents. -/
theorem entry0 (V : Valuation τ sig (Elt F)) (c : Dev nD) : (scopedRest spec0 c : sProp 𝕄) ⊢ (rd0 S V c).Φ 0 := .rfl

/-- Call 0 hands its scoped buffers back. -/
theorem exit0 (V : Valuation τ sig (Elt F)) (c : Dev nD) : (rd0 S V c).Φ (Fin.last cfg0.N) ⊢ (scopedRest spec0 c : sProp 𝕄) := .rfl

/-- Call 0. -/
def call0 : HostSeg (Ix := Unit) (Name := ℕ) (U := UU) (Lvl := ℕ) (pcfgs (F := F)) defs₀ Variants.none (fun _ => ∅) (fun _ _ => 0) :=
  Chain.region pcfgs adm () embR defs₀ Variants.none _ _ cellOf_inj (I 1) (I 2) (left 0) (rds S) 0 (by decide)
    launch0.toP rfl (body0 S hS) (fun _ _ _ => rfl) (fun _ _ => rfl)
    (fun _ _ w => by unfold RDat.share; split <;> rfl)
    (entry0 S) (exit0 S) (fun _ _ _ => rfl) hI.r0

/-- The host stretch before call 1. -/
def host1 : HostSeg (Ix := Unit) (Name := ℕ) (U := UU) (Lvl := ℕ) (pcfgs (F := F)) defs₀ Variants.none (fun _ => ∅) (fun _ _ => 0) :=
  Chain.ops pcfgs adm embR defs₀ Variants.none _ _ (I 2) (I 3) (left 1) hostOps1
    (fun op h => Pipeline.sub_ucRefs op ((List.forall_iff_forall_mem.mp hostOps1_sub) op h))
    (fun op h => (List.forall_iff_forall_mem.mp hostOps1_fresh) op h) hI.o1

/-- Call 1. -/
def call1 : HostSeg (Ix := Unit) (Name := ℕ) (U := UU) (Lvl := ℕ) (pcfgs (F := F)) defs₀ Variants.none (fun _ => ∅) (fun _ _ => 0) :=
  Chain.region pcfgs adm () embR defs₀ Variants.none _ _ cellOf_inj (I 3) (I 4) (left 1) (rds S) 1 (by decide)
    launch1.toP rfl (body1 S hS) (fun _ _ _ => rfl) (fun _ _ => rfl)
    (fun _ _ w => by unfold RDat.share; split <;> rfl)
    (entry1 S hS) (exit1 S) (fun _ _ _ => rfl) hI.r1

/-- The host stretch before call 2. -/
def host2 : HostSeg (Ix := Unit) (Name := ℕ) (U := UU) (Lvl := ℕ) (pcfgs (F := F)) defs₀ Variants.none (fun _ => ∅) (fun _ _ => 0) :=
  Chain.ops pcfgs adm embR defs₀ Variants.none _ _ (I 4) (I 5) (left 2) hostOps2
    (fun op h => Pipeline.sub_ucRefs op ((List.forall_iff_forall_mem.mp hostOps2_sub) op h))
    (fun op h => (List.forall_iff_forall_mem.mp hostOps2_fresh) op h) hI.o2

/-- Call 2 is entered with its scoped buffers at any contents. -/
theorem entry2 (V : Valuation τ sig (Elt F)) (c : Dev nD) : (scopedRest spec2 c : sProp 𝕄) ⊢ (rd2 S V c).Φ 0 := .rfl

/-- Call 2 hands its scoped buffers back. -/
theorem exit2 (V : Valuation τ sig (Elt F)) (c : Dev nD) : (rd2 S V c).Φ (Fin.last cfg2.N) ⊢ (scopedRest spec2 c : sProp 𝕄) := .rfl

/-- Call 2. -/
def call2 : HostSeg (Ix := Unit) (Name := ℕ) (U := UU) (Lvl := ℕ) (pcfgs (F := F)) defs₀ Variants.none (fun _ => ∅) (fun _ _ => 0) :=
  Chain.region pcfgs adm () embR defs₀ Variants.none _ _ cellOf_inj (I 5) (I 6) (left 2) (rds S) 2 (by decide)
    launch2.toP rfl (body2 S hS) (fun _ _ _ => rfl) (fun _ _ => rfl)
    (fun _ _ w => by unfold RDat.share; split <;> rfl)
    (entry2 S) (exit2 S) (fun _ _ _ => rfl) hI.r2

/-- The host stretch before call 3. -/
def host3 : HostSeg (Ix := Unit) (Name := ℕ) (U := UU) (Lvl := ℕ) (pcfgs (F := F)) defs₀ Variants.none (fun _ => ∅) (fun _ _ => 0) :=
  Chain.ops pcfgs adm embR defs₀ Variants.none _ _ (I 6) (I 7) (left 3) hostOps3
    (fun op h => Pipeline.sub_ucRefs op ((List.forall_iff_forall_mem.mp hostOps3_sub) op h))
    (fun op h => (List.forall_iff_forall_mem.mp hostOps3_fresh) op h) hI.o3

/-- Call 3 is entered with its scoped buffers at any contents. -/
theorem entry3 (V : Valuation τ sig (Elt F)) (c : Dev nD) : (scopedRest spec3 c : sProp 𝕄) ⊢ (rd3 S V c).Φ 0 := .rfl

/-- Call 3 hands its scoped buffers back. -/
theorem exit3 (V : Valuation τ sig (Elt F)) (c : Dev nD) : (rd3 S V c).Φ (Fin.last cfg3.N) ⊢ (scopedRest spec3 c : sProp 𝕄) := .rfl

/-- Call 3. -/
def call3 : HostSeg (Ix := Unit) (Name := ℕ) (U := UU) (Lvl := ℕ) (pcfgs (F := F)) defs₀ Variants.none (fun _ => ∅) (fun _ _ => 0) :=
  Chain.region pcfgs adm () embR defs₀ Variants.none _ _ cellOf_inj (I 7) (I 8) (left 3) (rds S) 3 (by decide)
    launch3.toP rfl (body3 S hS) (fun _ _ _ => rfl) (fun _ _ => rfl)
    (fun _ _ w => by unfold RDat.share; split <;> rfl)
    (entry3 S) (exit3 S) (fun _ _ _ => rfl) hI.r3

/-- The host stretch before call 4. -/
def host4 : HostSeg (Ix := Unit) (Name := ℕ) (U := UU) (Lvl := ℕ) (pcfgs (F := F)) defs₀ Variants.none (fun _ => ∅) (fun _ _ => 0) :=
  Chain.ops pcfgs adm embR defs₀ Variants.none _ _ (I 8) (I 9) (left 4) hostOps4
    (fun op h => Pipeline.sub_ucRefs op ((List.forall_iff_forall_mem.mp hostOps4_sub) op h))
    (fun op h => (List.forall_iff_forall_mem.mp hostOps4_fresh) op h) hI.o4

/-- Call 4 is entered with its scoped buffers at any contents. -/
theorem entry4 (V : Valuation τ sig (Elt F)) (c : Dev nD) : (scopedRest spec4 c : sProp 𝕄) ⊢ (rd4 S V c).Φ 0 := .rfl

/-- Call 4 hands its scoped buffers back. -/
theorem exit4 (V : Valuation τ sig (Elt F)) (c : Dev nD) : (rd4 S V c).Φ (Fin.last cfg4.N) ⊢ (scopedRest spec4 c : sProp 𝕄) := .rfl

/-- Call 4. -/
def call4 : HostSeg (Ix := Unit) (Name := ℕ) (U := UU) (Lvl := ℕ) (pcfgs (F := F)) defs₀ Variants.none (fun _ => ∅) (fun _ _ => 0) :=
  Chain.region pcfgs adm () embR defs₀ Variants.none _ _ cellOf_inj (I 9) (I 10) (left 4) (rds S) 4 (by decide)
    launch4.toP rfl (body4 S hS) (fun _ _ _ => rfl) (fun _ _ => rfl)
    (fun _ _ w => by unfold RDat.share; split <;> rfl)
    (entry4 S) (exit4 S) (fun _ _ _ => rfl) hI.r4

end Segs

set_option backward.isDefEq.respectTransparency.types false in
/-- The run of the whole program: from a memory whose contents satisfy `I 0`, every weakly fair execution terminates with
    every semaphore counter at zero and a memory of which `QY` holds, `QY` following from `I 10` of the unscoped buffers'
    contents. -/
theorem run (S : Preds F) (hS : Holds S) (I : ℕ → Dev nD → Valuation τ sig (Elt F) → Prop) (hI : Links S I)
    (m : (ℓ : Loc nD τ sig) → Buf (Elt F) ℓ) (ρ : Dev nD → PrngReg) (h0 : ∀ c, I 0 c (V0 m c))
    (QY : Dev nD → MemSt nD τ sig (Elt F) → Prop)
    (hQY : ∀ c V (s : MemSt nD τ sig (Elt F)), I 10 c V → (∀ b ∈ Pipeline.ucRefs τ sig, s.mem (c, b) = V b) → QY c s) :
    θ_run defs (onTc (τ := τ) (main (F := F))) ⟨m, fun _ => 0, ρ⟩ (fun r => (∀ c, QY c r.2) ∧ r.2.sem = fun _ => 0) := by
  refine RDat.θ_run_regions_kit_sems (pcfgs (F := F)) adm (fun p c => rds S (V0 m c) p c) () cellOf_inj
    (embL (A := UR sig nD τ) (B := UR sig nD τ)) defs₀ Variants.none (fun _ => ∅) (fun _ _ => 0) m ρ main
    [.host (host0 S I hI), .host (call0 S hS I hI), .host (host1 S I hI), .host (call1 S hS I hI), .host (host2 S I hI), .host (call2 S hS I hI),
      .host (host3 S I hI), .host (call3 S hS I hI), .host (host4 S I hI), .host (call4 S hS I hI)]
    (fun c Q => by
      rewrite [main_chain c, RDat.Seg.run_eq_chain]
      exact .rfl)
    (by simp only [RDat.Seg.pipes_host, RDat.Seg.pipes_nil]; exact List.nodup_nil) 0 (fun _ _ => rfl)
    (fun c => ghostOn pcfgs adm (embR (A := UR sig nD τ) (B := UR sig nD τ)) Finset.univ c)
    (initOf (cells (pin pcfgs adm) cellOf_inj) (launchToks (pin pcfgs adm) cellOf_inj), initOf (cells (pin pcfgs adm) cellOf_inj) (launchToks (pin pcfgs adm) cellOf_inj))
    ((ownU_pair _ _).trans (Chain.fund pcfgs adm embR cellOf_inj embL))
    (St pcfgs adm embR (I 0) (left 0)) (fun c => iprop(∃ V, ⌜I 10 c V⌝ ∗ StableHlo.held (c.tc : Thread nD τ) (ucRefs τ sig) V))
    ⟨fun _ => .rfl, fun _ => .rfl, fun _ => .rfl, fun _ => .rfl, fun _ => .rfl, fun _ => .rfl, fun _ => .rfl, fun _ => .rfl, fun _ => .rfl, fun _ => .rfl,
      fun c => ?_⟩ ?_ QY (fun c s' => ?_) (fun s h hz => ⟨h, funext fun g => hz g (.inr (regions_no_unscoped g.2))⟩)
  · show St pcfgs adm embR (I 10) _ c ⊢ _
    unfold St Idle
    iintro ⟨%V, %hV, Hh, ⟨-, HO⟩, -⟩
    isplitl [Hh]
    · iexists V; isplitr; · ipureintro; exact hV
      iexact Hh
    iexact HO
  · have hm : ∀ c : Dev nD, iprop(unscopedBufs c (fun b => m ((c.tc : Thread nD τ).loc b)) ∗ unscopedSems0 c
          ∗ owes (c.tc : Thread nD τ) (0 : CellTallies nD τ sig Unit) ∅ ∗ launchCred (0 : Dev nD → CellTallies nD τ sig Unit) c ∗ prngReg c (ρ c)
          ∗ ghostOn pcfgs adm (embR (A := UR sig nD τ) (B := UR sig nD τ)) Finset.univ c) ⊢ (St pcfgs adm embR (I 0) (left 0) c : sProp 𝕄) := by
      intro c
      unfold St Idle
      rw [show (unscopedBufs c (fun b => m ((c.tc : Thread nD τ).loc b)) : sProp 𝕄) = StableHlo.held (c : Thread nD τ) (Pipeline.ucRefs τ sig) (V0 m c) from
        Pipeline.unscopedBufs_held (Ix := Unit) (Name := ℕ) (U := UU) (Lvl := ℕ) c (V0 m c)]
      iintro ⟨Hh, -, HO, -, Hp, HG⟩
      iexists V0 m c
      isplitr; · ipureintro; exact h0 c
      isplitl [Hh]; · iexact Hh
      isplitl [Hp HO]
      · isplitl [Hp]; · iexists ρ c; iexact Hp
        iexists ∅; iexact HO
      iexact HG
    refine (sep_mono (bigSep_mono fun c _ => hm c) .rfl).trans ?_
    iintro ⟨H, -⟩
    imodintro
    iexact H
  · iintro ⟨⟨%V, %hV, Hh⟩, HSI⟩
    unfold StableHlo.held
    ihave Hr := (pointsTo_read_all (Pipeline.ucRefs τ sig) (fun b => ((c : Thread nD τ).1, b)) V s') $$ [Hh HSI]
    · isplitl [Hh] <;> iassumption
    icases Hr with ⟨%h, HSI⟩
    imodintro
    isplitr; · ipureintro; exact hQY c V s'.mem hV h
    iexact HSI

end Cert.KernelIdeal.Run

end
-- ==== Proof.FrameI.lean ====
/- The arguments end as launched: every item of @main leaves them alone. -/
module

public import proofs.«01_k».proof.Proof.RunI

@[expose] public section

set_option maxRecDepth 16384

noncomputable section

namespace Cert.KernelIdeal.Run

open Cert.KernelIdeal Cert.KernelIdeal.Gen Cert.KernelIdeal.Body Cert.Chain
open Idealize.ShloMosaic.Pipeline
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The arguments of @main. -/
abbrev args : List (Ref sig .tc) := [main_arg0, main_arg1, main_arg2, main_arg3, main_arg4, main_arg5, main_arg6, main_arg7, main_arg8, main_arg9, main_arg10, main_arg11]

/-- The arguments are as launched. -/
def Kept (m : (ℓ : Loc nD τ sig) → Buf (Elt F) ℓ) (c : Dev nD) (V : Valuation τ sig (Elt F)) : Prop :=
  ∀ r ∈ args, V (Proc.devRef .tc r) = m ((c.tc : Thread nD τ).loc r)

/-- Call 0 leaves every buffer but its results as it was. -/
theorem keep0 (S : Preds F) (c : Dev nD) (V : Valuation τ sig (Elt F)) (A : (w : Fin 5) → Buf (Elt F) ((cfg0.win w).arr.view.loc (c.tc : Thread nD τ)))
    (hA : ∀ w, (rd0 S V c).ArrAt w cfg0.N (A w)) (r : Ref sig .tc) (h : r ∉ ([main_v2] : List (Ref sig .tc))) :
    withArrays spec0 c V A (Proc.devRef .tc r) = V (Proc.devRef .tc r) :=
  keep (rd0 S V c) V winFacts0.arr_inj (fun _ => rfl) A hA r (by
    intro w e; subst e; revert h
    generalize hw : arrRef cfg0.spec w = r
    revert hw; revert r; revert w
    decide)

/-- The host stretch before call 0 keeps the arguments as launched. -/
theorem kept_host0 (m : (ℓ : Loc nD τ sig) → Buf (Elt F) ℓ) (c : Dev nD) (V : Valuation τ sig (Elt F)) (h : Kept m c V) : Kept m c (StableHlo.after hostOps0 V) :=
  fun r hr => (StableHlo.after_of_writes_sub hostOps0 V hostOps0_writes (by revert r; decide)).trans (h r hr)

/-- Call 0 keeps the arguments as launched. -/
theorem kept_call0 (S : Preds F) (m : (ℓ : Loc nD τ sig) → Buf (Elt F) ℓ) (c : Dev nD) (V : Valuation τ sig (Elt F)) (A : (w : Fin 5) → Buf (Elt F) ((cfg0.win w).arr.view.loc (c.tc : Thread nD τ)))
    (hA : ∀ w, (rd0 S V c).ArrAt w cfg0.N (A w)) (h : Kept m c V) : Kept m c (withArrays spec0 c V A) :=
  fun r hr => (keep0 S c V A hA r (by revert r; decide)).trans (h r hr)

/-- Call 1 leaves every buffer but its results as it was. -/
theorem keep1 (S : Preds F) (c : Dev nD) (V : Valuation τ sig (Elt F)) (A : (w : Fin 6) → Buf (Elt F) ((cfg1.win w).arr.view.loc (c.tc : Thread nD τ)))
    (hA : ∀ w, (rd1 S V c).ArrAt w cfg1.N (A w)) (r : Ref sig .tc) (h : r ∉ ([main_v4_0, main_v4_1] : List (Ref sig .tc))) :
    withArrays spec1 c V A (Proc.devRef .tc r) = V (Proc.devRef .tc r) :=
  keep (rd1 S V c) V winFacts1.arr_inj (fun _ => rfl) A hA r (by
    intro w e; subst e; revert h
    generalize hw : arrRef cfg1.spec w = r
    revert hw; revert r; revert w
    decide)

/-- The host stretch before call 1 keeps the arguments as launched. -/
theorem kept_host1 (m : (ℓ : Loc nD τ sig) → Buf (Elt F) ℓ) (c : Dev nD) (V : Valuation τ sig (Elt F)) (h : Kept m c V) : Kept m c (StableHlo.after hostOps1 V) :=
  fun r hr => (StableHlo.after_of_writes_sub hostOps1 V hostOps1_writes (by revert r; decide)).trans (h r hr)

/-- Call 1 keeps the arguments as launched. -/
theorem kept_call1 (S : Preds F) (m : (ℓ : Loc nD τ sig) → Buf (Elt F) ℓ) (c : Dev nD) (V : Valuation τ sig (Elt F)) (A : (w : Fin 6) → Buf (Elt F) ((cfg1.win w).arr.view.loc (c.tc : Thread nD τ)))
    (hA : ∀ w, (rd1 S V c).ArrAt w cfg1.N (A w)) (h : Kept m c V) : Kept m c (withArrays spec1 c V A) :=
  fun r hr => (keep1 S c V A hA r (by revert r; decide)).trans (h r hr)

/-- Call 2 leaves every buffer but its results as it was. -/
theorem keep2 (S : Preds F) (c : Dev nD) (V : Valuation τ sig (Elt F)) (A : (w : Fin 5) → Buf (Elt F) ((cfg2.win w).arr.view.loc (c.tc : Thread nD τ)))
    (hA : ∀ w, (rd2 S V c).ArrAt w cfg2.N (A w)) (r : Ref sig .tc) (h : r ∉ ([main_v6] : List (Ref sig .tc))) :
    withArrays spec2 c V A (Proc.devRef .tc r) = V (Proc.devRef .tc r) :=
  keep (rd2 S V c) V winFacts2.arr_inj (fun _ => rfl) A hA r (by
    intro w e; subst e; revert h
    generalize hw : arrRef cfg2.spec w = r
    revert hw; revert r; revert w
    decide)

/-- The host stretch before call 2 keeps the arguments as launched. -/
theorem kept_host2 (m : (ℓ : Loc nD τ sig) → Buf (Elt F) ℓ) (c : Dev nD) (V : Valuation τ sig (Elt F)) (h : Kept m c V) : Kept m c (StableHlo.after hostOps2 V) :=
  fun r hr => (StableHlo.after_of_writes_sub hostOps2 V hostOps2_writes (by revert r; decide)).trans (h r hr)

/-- Call 2 keeps the arguments as launched. -/
theorem kept_call2 (S : Preds F) (m : (ℓ : Loc nD τ sig) → Buf (Elt F) ℓ) (c : Dev nD) (V : Valuation τ sig (Elt F)) (A : (w : Fin 5) → Buf (Elt F) ((cfg2.win w).arr.view.loc (c.tc : Thread nD τ)))
    (hA : ∀ w, (rd2 S V c).ArrAt w cfg2.N (A w)) (h : Kept m c V) : Kept m c (withArrays spec2 c V A) :=
  fun r hr => (keep2 S c V A hA r (by revert r; decide)).trans (h r hr)

/-- Call 3 leaves every buffer but its results as it was. -/
theorem keep3 (S : Preds F) (c : Dev nD) (V : Valuation τ sig (Elt F)) (A : (w : Fin 5) → Buf (Elt F) ((cfg3.win w).arr.view.loc (c.tc : Thread nD τ)))
    (hA : ∀ w, (rd3 S V c).ArrAt w cfg3.N (A w)) (r : Ref sig .tc) (h : r ∉ ([main_v8] : List (Ref sig .tc))) :
    withArrays spec3 c V A (Proc.devRef .tc r) = V (Proc.devRef .tc r) :=
  keep (rd3 S V c) V winFacts3.arr_inj (fun _ => rfl) A hA r (by
    intro w e; subst e; revert h
    generalize hw : arrRef cfg3.spec w = r
    revert hw; revert r; revert w
    decide)

/-- The host stretch before call 3 keeps the arguments as launched. -/
theorem kept_host3 (m : (ℓ : Loc nD τ sig) → Buf (Elt F) ℓ) (c : Dev nD) (V : Valuation τ sig (Elt F)) (h : Kept m c V) : Kept m c (StableHlo.after hostOps3 V) :=
  fun r hr => (StableHlo.after_of_writes_sub hostOps3 V hostOps3_writes (by revert r; decide)).trans (h r hr)

/-- Call 3 keeps the arguments as launched. -/
theorem kept_call3 (S : Preds F) (m : (ℓ : Loc nD τ sig) → Buf (Elt F) ℓ) (c : Dev nD) (V : Valuation τ sig (Elt F)) (A : (w : Fin 5) → Buf (Elt F) ((cfg3.win w).arr.view.loc (c.tc : Thread nD τ)))
    (hA : ∀ w, (rd3 S V c).ArrAt w cfg3.N (A w)) (h : Kept m c V) : Kept m c (withArrays spec3 c V A) :=
  fun r hr => (keep3 S c V A hA r (by revert r; decide)).trans (h r hr)

/-- Call 4 leaves every buffer but its results as it was. -/
theorem keep4 (S : Preds F) (c : Dev nD) (V : Valuation τ sig (Elt F)) (A : (w : Fin 4) → Buf (Elt F) ((cfg4.win w).arr.view.loc (c.tc : Thread nD τ)))
    (hA : ∀ w, (rd4 S V c).ArrAt w cfg4.N (A w)) (r : Ref sig .tc) (h : r ∉ ([main_v10] : List (Ref sig .tc))) :
    withArrays spec4 c V A (Proc.devRef .tc r) = V (Proc.devRef .tc r) :=
  keep (rd4 S V c) V winFacts4.arr_inj (fun _ => rfl) A hA r (by
    intro w e; subst e; revert h
    generalize hw : arrRef cfg4.spec w = r
    revert hw; revert r; revert w
    decide)

/-- The host stretch before call 4 keeps the arguments as launched. -/
theorem kept_host4 (m : (ℓ : Loc nD τ sig) → Buf (Elt F) ℓ) (c : Dev nD) (V : Valuation τ sig (Elt F)) (h : Kept m c V) : Kept m c (StableHlo.after hostOps4 V) :=
  fun r hr => (StableHlo.after_of_writes_sub hostOps4 V hostOps4_writes (by revert r; decide)).trans (h r hr)

/-- Call 4 keeps the arguments as launched. -/
theorem kept_call4 (S : Preds F) (m : (ℓ : Loc nD τ sig) → Buf (Elt F) ℓ) (c : Dev nD) (V : Valuation τ sig (Elt F)) (A : (w : Fin 4) → Buf (Elt F) ((cfg4.win w).arr.view.loc (c.tc : Thread nD τ)))
    (hA : ∀ w, (rd4 S V c).ArrAt w cfg4.N (A w)) (h : Kept m c V) : Kept m c (withArrays spec4 c V A) :=
  fun r hr => (keep4 S c V A hA r (by revert r; decide)).trans (h r hr)

/-- Predicates that say nothing. -/
def triv : Preds F := ⟨fun _ _ _ => True, fun _ _ _ => True, fun _ _ _ => True, fun _ _ _ => True, fun _ _ _ => True, fun _ _ _ => True, fun _ _ _ => True⟩

/-- They hold. -/
theorem triv_holds : Holds (triv (F := F)) := by
  constructor <;> intros <;> first | trivial | exact ⟨trivial, trivial⟩ | exact ⟨trivial, trivial, trivial⟩

/-- Through the whole program the arguments are as launched. -/
theorem kept_links (m : (ℓ : Loc nD τ sig) → Buf (Elt F) ℓ) : Links (triv (F := F)) fun _ => Kept m where
  o0 := kept_host0 m
  r0 c V A h hA := kept_call0 triv m c V A hA h
  o1 := kept_host1 m
  r1 c V A h hA := kept_call1 triv m c V A hA h
  o2 := kept_host2 m
  r2 c V A h hA := kept_call2 triv m c V A hA h
  o3 := kept_host3 m
  r3 c V A h hA := kept_call3 triv m c V A hA h
  o4 := kept_host4 m
  r4 c V A h hA := kept_call4 triv m c V A hA h

/-- The arguments read as launched in a memory. -/
abbrev Same (m : (ℓ : Loc nD τ sig) → Buf (Elt F) ℓ) (c : Dev nD) (s : MemSt nD τ sig (Elt F)) : Prop :=
  s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11)

/-- A memory that reads kept contents has the arguments as launched. -/
theorem same_of_kept (m : (ℓ : Loc nD τ sig) → Buf (Elt F) ℓ) (c : Dev nD) (V : Valuation τ sig (Elt F)) (s : MemSt nD τ sig (Elt F))
    (h : Kept m c V) (hs : ∀ b ∈ Pipeline.ucRefs τ sig, s.mem (c, b) = V b) : Same m c s := by
  have hr : ∀ r ∈ args, r.isScoped = false → s.mem ((c.tc : Thread nD τ).loc r) = m ((c.tc : Thread nD τ).loc r) := fun r hm hu =>
    (hs (Proc.devRef .tc r) (Finset.mem_filter.mpr ⟨StableHlo.devRef_mem_tcRefs r, by simpa using hu⟩)).trans (h r hm)
  refine ⟨hr _ (by decide) (by decide), hr _ (by decide) (by decide), hr _ (by decide) (by decide), hr _ (by decide) (by decide), hr _ (by decide) (by decide), hr _ (by decide) (by decide), hr _ (by decide) (by decide), hr _ (by decide) (by decide), hr _ (by decide) (by decide), hr _ (by decide) (by decide), hr _ (by decide) (by decide), hr _ (by decide) (by decide)⟩

/-- Every execution terminates with the arguments as launched and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c, Same m c r.2) ∧ r.2.sem = fun _ => 0) :=
  run triv triv_holds (fun _ => Kept m) (kept_links m) m ρ (fun _ _ _ => rfl) (Same m) (fun c V s h hs => same_of_kept m c V s h hs)

end Cert.KernelIdeal.Run

end
-- ==== Proof.Layers.lean ====
/- The mathematics both programs compute, over extended reals: a layer normalisation with a projection, then graph
   layers.  A row number is a natural number; what lies past the 10000 rows counts as zero. -/
module

public import Idealize.ShloMosaic.Lib.Pointwise
public import Idealize.ShloMosaic.Lib.IdealHost

@[expose] public section

set_option maxRecDepth 16384

noncomputable section

namespace Cert.Layers

open Idealize.ShloMosaic

/-- The mean of 128 entries. -/
def mean (x : Fin 128 → EReal) : EReal := Ideal.div (∑ k, x k) (Ideal.ofBits .f32 0x43000000#32)

/-- The mean square deviation, plus the constant the normalisation adds. -/
def spread (x : Fin 128 → EReal) : EReal :=
  Ideal.div (∑ k, (x k - mean x) * (x k - mean x)) (Ideal.ofBits .f32 0x43000000#32) + Ideal.ofBits .f32 0x3727C5AC#32

/-- A normalised row times a matrix column, normalised by the reciprocal root. -/
def proj (x g b w : Fin 128 → EReal) : EReal :=
  ∑ k, ((x k - mean x) * Ideal.rsqrt (spread x) * g k + b k) * w k

/-- Row `i` of a matrix of `n` columns; zero past its last row. -/
def row {m n : ℕ} (X : (⟨2, ![m, n]⟩ : Shape).Idx → EReal) (i : ℕ) (c : Fin n) : EReal :=
  if h : i < m then X (ix2 ⟨i, h⟩ c) else 0

/-- Entry `(i, k)` of a matrix; zero outside it. -/
def ent {m n : ℕ} (X : (⟨2, ![m, n]⟩ : Shape).Idx → EReal) (i k : ℕ) : EReal :=
  if h : k < n then row X i ⟨k, h⟩ else 0

/-- The normalised and projected features: zero past row 10000. -/
def feat {p : ℕ} (X : ℕ → Fin 128 → EReal) (g b : Fin 128 → EReal) (W : Fin 128 → Fin p → EReal) (i : ℕ) (c : Fin p) : EReal :=
  if i < 10000 then proj (X i) g b (fun k => W k c) else 0

/-- Neighbourhood aggregation: row `i` of the adjacency matrix against column `j`. -/
def agg {n : ℕ} (A : ℕ → ℕ → EReal) (s : ℕ → Fin n → EReal) (i : ℕ) (j : Fin n) : EReal :=
  ∑ κ ∈ Finset.range 10000, A i κ * s κ j

/-- One graph layer followed by the next layer's projection: zero past row 10000. -/
def layer {n p : ℕ} (A : ℕ → ℕ → EReal) (s : ℕ → Fin n → EReal) (b : Fin n → EReal) (W : Fin n → Fin p → EReal)
    (i : ℕ) (c : Fin p) : EReal :=
  if i < 10000 then ∑ j, max (agg A s i j + b j) 0 * W j c else 0

/-- A row inside the matrix is the matrix's. -/
theorem row_of {m n : ℕ} (X : (⟨2, ![m, n]⟩ : Shape).Idx → EReal) (i : Fin m) (c : Fin n) : row X i c = X (ix2 i c) := by
  unfold row; rw [dif_pos i.isLt]

/-- An entry inside the matrix is the matrix's. -/
theorem ent_of {m n : ℕ} (X : (⟨2, ![m, n]⟩ : Shape).Idx → EReal) (i : Fin m) (c : Fin n) : ent X i c = X (ix2 i c) := by
  unfold ent; rw [dif_pos c.isLt]; exact row_of X i c

/-- The count of features is a positive real. -/
theorem count_eq : Ideal.ofBits .f32 0x43000000#32 = ((128 : ℝ) : EReal) := by
  simp [Ideal.ofBits, Ideal.ieee]
  rw [← EReal.coe_mul]
  norm_num

/-- The normalisation's constant is a positive real. -/
theorem eps_pos : 0 < Ideal.ofBits .f32 0x3727C5AC#32 := by
  simp [Ideal.ofBits, Ideal.ieee]
  rw [← EReal.coe_mul]
  exact_mod_cast (by norm_num : (0 : ℝ) < 10995116 * (2 ^ 40)⁻¹)

/-- A square is not negative. -/
theorem sq_nonneg' (x : EReal) : 0 ≤ x * x := by
  induction x with
  | bot => simp
  | top => simp
  | coe r => exact_mod_cast mul_self_nonneg r

/-- A mean square deviation plus the constant is positive. -/
theorem spread_pos (x : Fin 128 → EReal) : 0 < spread x := by
  have h : 0 ≤ ∑ k, (x k - mean x) * (x k - mean x) := Finset.sum_nonneg fun k _ => sq_nonneg' _
  unfold spread
  rw [count_eq]
  refine lt_of_lt_of_le eps_pos (le_add_of_nonneg_left ?_)
  unfold Ideal.div
  rw [if_neg (by norm_num)]
  refine mul_nonneg h ?_
  exact EReal.inv_nonneg_of_nonneg (by norm_num)

/-- Dividing by a root is multiplying by the reciprocal root, at a positive number. -/
theorem div_sqrt (a v : EReal) (h : 0 < v) : Ideal.div a (Ideal.sqrt v) = a * Ideal.rsqrt v := by
  induction v with
  | bot => simp at h
  | top => simp [Ideal.div]
  | coe r =>
    have hr : 0 < r := by exact_mod_cast h
    have hs : 0 < Real.sqrt r := Real.sqrt_pos.mpr hr
    rw [Ideal.sqrt_coe, Ideal.rsqrt_coe, if_neg hr.not_gt, if_neg hr.not_gt, if_neg hr.ne']
    unfold Ideal.div
    rw [if_neg (by exact_mod_cast hs.ne'), EReal.coe_inv]

/-- Past the 10000 rows a sum of products with a matrix that is zero there adds nothing. -/
theorem agg_eq {n : ℕ} (A : ℕ → ℕ → EReal) (s : ℕ → Fin n → EReal) (hs : ∀ κ, 10000 ≤ κ → ∀ j, s κ j = 0) (i : ℕ) (j : Fin n)
    (N : ℕ) (hN : 10000 ≤ N) : ∑ κ ∈ Finset.range N, A i κ * s κ j = agg A s i j := by
  symm
  refine Finset.sum_subset (Finset.range_mono hN) fun κ _ h => ?_
  rw [hs κ (by simpa using h) j, mul_zero]

/-- A sum over one block of rows continues the sum over the rows before it. -/
theorem sum_block (f : ℕ → EReal) (m n : ℕ) :
    (∑ κ ∈ Finset.range m, f κ) + ∑ κ : Fin n, f (m + κ.val) = ∑ κ ∈ Finset.range (m + n), f κ := by
  rw [Finset.sum_range_add, Finset.sum_range]
  exact congrArg _ (Finset.sum_range fun x => f (m + x)).symm

/-- A layer as the padded arrays give it: the sum runs over 10240 rows. -/
def wide {n p : ℕ} (A : ℕ → ℕ → EReal) (s : ℕ → Fin n → EReal) (b : Fin n → EReal) (W : Fin n → Fin p → EReal)
    (i : ℕ) (c : Fin p) : EReal :=
  if i < 10000 then ∑ j, max ((∑ κ ∈ Finset.range 10240, A i κ * s κ j) + b j) 0 * W j c else 0

/-- The padding adds nothing. -/
theorem wide_eq {n p : ℕ} (A : ℕ → ℕ → EReal) (s : ℕ → Fin n → EReal) (hs : ∀ κ, 10000 ≤ κ → ∀ j, s κ j = 0) (b : Fin n → EReal)
    (W : Fin n → Fin p → EReal) : wide A s b W = layer A s b W := by
  funext i c
  unfold wide layer
  simp only [agg_eq A s hs _ _ 10240 (by norm_num)]

end Cert.Layers
-- ==== Proof.RefI.lean ====
/- The reference's result, read at an index: the layers of `Cert.Layers`. -/
module

public import proofs.«01_k».proof.Proof.Layers
public import proofs.«01_k».proof.Proof.Gen.ReferenceIdeal.Run

@[expose] public section

set_option maxRecDepth 16384

noncomputable section

namespace Cert.ReferenceIdeal.Layered

open Cert.ReferenceIdeal Cert.ReferenceIdeal.Gen Cert.Layers
open Idealize.ShloMosaic Idealize.ShloMosaic.TcCoe Idealize.SL.Sem

/-- The reference's row means, as a column. -/
def mu (x : FVec Ideal S10000x128 .f32) : FVec Ideal S10000x1 .f32 :=
  Host.divf (broadcastInDim S10000x1 ![0] bcast_S10000_S10000x1_0 (Host.reduceAdd x (constant S_ .f32 0x00000000#32) reducesTo_S10000x128_S10000_d1 h_S_)) (broadcastInDim S10000x1 ![] bcast_S_S10000x1 (constant S_ .f32 0x43000000#32))

/-- The reference's deviations from the row means. -/
def dev (x : FVec Ideal S10000x128 .f32) : FVec Ideal S10000x128 .f32 :=
  subf x (broadcastInDim S10000x128 ![0, 1] bcast_S10000x1_S10000x128_0_1 (mu x))

/-- The reference's first projection: the normalised features times the first weights. -/
def p0 (x : FVec Ideal S10000x128 .f32) (g b : FVec Ideal S128 .f32) (w : FVec Ideal S128x256 .f32) : FVec Ideal S10000x256 .f32 :=
  Host.dotGeneral dot_S10000x128_S128x256_S10000x256_1_0_0_1_n_n none (addf (mulf (Host.divf (dev x) (broadcastInDim S10000x128 ![0, 1] bcast_S10000x1_S10000x128_0_1 (Host.sqrt (addf (Host.divf (broadcastInDim S10000x1 ![0] bcast_S10000_S10000x1_0 (Host.reduceAdd (mulf (dev x) (dev x)) (constant S_ .f32 0x00000000#32) reducesTo_S10000x128_S10000_d1 h_S_)) (broadcastInDim S10000x1 ![] bcast_S_S10000x1 (constant S_ .f32 0x43000000#32))) (broadcastInDim S10000x1 ![] bcast_S_S10000x1 (constant S_ .f32 0x3727C5AC#32)))))) (broadcastInDim S10000x128 ![0, 1] bcast_S1x128_S10000x128_0_1 (broadcastInDim S1x128 ![1] bcast_S128_S1x128_1 g))) (broadcastInDim S10000x128 ![0, 1] bcast_S1x128_S10000x128_0_1 (broadcastInDim S1x128 ![1] bcast_S128_S1x128_1 b))) w

/-- The reference's layer 1 and second projection. -/
def p1 (a : FVec Ideal S10000x10000 .f32) (s : FVec Ideal S10000x256 .f32) (b : FVec Ideal S256 .f32) (w : FVec Ideal S256x128 .f32) : FVec Ideal S10000x128 .f32 :=
  Host.dotGeneral dot_S10000x256_S256x128_S10000x128_1_0_0_1_n_n none (maximumf (addf (Host.dotGeneral dot_S10000x10000_S10000x256_S10000x256_1_0_0_1_n_n none a s) (broadcastInDim S10000x256 ![0, 1] bcast_S1x256_S10000x256_0_1 (broadcastInDim S1x256 ![1] bcast_S256_S1x256_1 b))) (broadcastInDim S10000x256 ![] bcast_S_S10000x256 (constant S_ .f32 0x00000000#32))) w

/-- The reference's layer 2 and third projection. -/
def p2 (a : FVec Ideal S10000x10000 .f32) (s : FVec Ideal S10000x128 .f32) (b : FVec Ideal S128 .f32) (w : FVec Ideal S128x64 .f32) : FVec Ideal S10000x64 .f32 :=
  Host.dotGeneral dot_S10000x128_S128x64_S10000x64_1_0_0_1_n_n none (maximumf (addf (Host.dotGeneral dot_S10000x10000_S10000x128_S10000x128_1_0_0_1_n_n none a s) (broadcastInDim S10000x128 ![0, 1] bcast_S1x128_S10000x128_0_1 (broadcastInDim S1x128 ![1] bcast_S128_S1x128_1 b))) (broadcastInDim S10000x128 ![] bcast_S_S10000x128 (constant S_ .f32 0x00000000#32))) w

/-- The reference's layer 3 and fourth projection. -/
def p3 (a : FVec Ideal S10000x10000 .f32) (s : FVec Ideal S10000x64 .f32) (b : FVec Ideal S64 .f32) (w : FVec Ideal S64x128 .f32) : FVec Ideal S10000x128 .f32 :=
  Host.dotGeneral dot_S10000x64_S64x128_S10000x128_1_0_0_1_n_n none (maximumf (addf (Host.dotGeneral dot_S10000x10000_S10000x64_S10000x64_1_0_0_1_n_n none a s) (broadcastInDim S10000x64 ![0, 1] bcast_S1x64_S10000x64_0_1 (broadcastInDim S1x64 ![1] bcast_S64_S1x64_1 b))) (broadcastInDim S10000x64 ![] bcast_S_S10000x64 (constant S_ .f32 0x00000000#32))) w

/-- The reference's layer 4, the last: no activation and no further projection. -/
def p4 (a : FVec Ideal S10000x10000 .f32) (s : FVec Ideal S10000x128 .f32) (b : FVec Ideal S128 .f32) : FVec Ideal S10000x128 .f32 :=
  addf (Host.dotGeneral dot_S10000x10000_S10000x128_S10000x128_1_0_0_1_n_n none a s) (broadcastInDim S10000x128 ![0, 1] bcast_S1x128_S10000x128_0_1 (broadcastInDim S1x128 ![1] bcast_S128_S1x128_1 b))

/-- The reference's row mean. -/
theorem mu_at (x : FVec Ideal S10000x128 .f32) (i : Fin 10000) : mu x (ix2 i 0) = mean fun k => x (ix2 i k) := by
  pointwise [mu, mean]

/-- The reference's deviation from the row mean. -/
theorem dev_at (x : FVec Ideal S10000x128 .f32) (i : Fin 10000) (k : Fin 128) :
    dev x (ix2 i k) = x (ix2 i k) - mean fun k => x (ix2 i k) := by
  rw [← mu_at]
  pointwise [dev]

/-- The reference's projected features are the layer's: dividing by the root is multiplying by its reciprocal. -/
theorem p0_at (x : FVec Ideal S10000x128 .f32) (g b : FVec Ideal S128 .f32) (w : FVec Ideal S128x256 .f32) (i : Fin 10000) (c : Fin 256) :
    p0 x g b w (ix2 i c) = feat (row x) (fun k => g (ix1 k)) (fun k => b (ix1 k)) (fun k c => w (ix2 k c)) i c := by
  unfold feat proj
  rw [if_pos i.isLt]
  rw [show row x i = fun k => x (ix2 i k) from funext (row_of x i)]
  simp only [← div_sqrt _ _ (spread_pos _)]
  pointwise [p0, dev_at]
  rfl

/-- A matrix product of 10000 terms is the aggregation. -/
theorem sum_rows {n : ℕ} (a : FVec Ideal S10000x10000 .f32) (s : FVec Ideal ⟨2, ![10000, n]⟩ .f32) (i : Fin 10000) (j : Fin n) :
    ∑ κ : Fin 10000, a (ix2 i κ) * s (ix2 κ j) = agg (ent a) (row s) i j := by
  unfold agg
  rw [Finset.sum_range]
  exact Finset.sum_congr rfl fun κ _ => by rw [ent_of, row_of]

/-- The reference's layer 1, entry by entry. -/
theorem p1_at (a : FVec Ideal S10000x10000 .f32) (s : FVec Ideal S10000x256 .f32) (b : FVec Ideal S256 .f32) (w : FVec Ideal S256x128 .f32) (i : Fin 10000) (c : Fin 128) :
    p1 a s b w (ix2 i c) = layer (ent a) (row s) (fun j => b (ix1 j)) (fun j c => w (ix2 j c)) i c := by
  unfold layer
  rw [if_pos i.isLt]
  simp only [← sum_rows]
  pointwise [p1]

/-- The reference's layer 2, entry by entry. -/
theorem p2_at (a : FVec Ideal S10000x10000 .f32) (s : FVec Ideal S10000x128 .f32) (b : FVec Ideal S128 .f32) (w : FVec Ideal S128x64 .f32) (i : Fin 10000) (c : Fin 64) :
    p2 a s b w (ix2 i c) = layer (ent a) (row s) (fun j => b (ix1 j)) (fun j c => w (ix2 j c)) i c := by
  unfold layer
  rw [if_pos i.isLt]
  simp only [← sum_rows]
  pointwise [p2]

/-- The reference's layer 3, entry by entry. -/
theorem p3_at (a : FVec Ideal S10000x10000 .f32) (s : FVec Ideal S10000x64 .f32) (b : FVec Ideal S64 .f32) (w : FVec Ideal S64x128 .f32) (i : Fin 10000) (c : Fin 128) :
    p3 a s b w (ix2 i c) = layer (ent a) (row s) (fun j => b (ix1 j)) (fun j c => w (ix2 j c)) i c := by
  unfold layer
  rw [if_pos i.isLt]
  simp only [← sum_rows]
  pointwise [p3]

/-- The reference's last layer, entry by entry. -/
theorem p4_at (a : FVec Ideal S10000x10000 .f32) (s : FVec Ideal S10000x128 .f32) (b : FVec Ideal S128 .f32) (i : Fin 10000) (c : Fin 128) :
    p4 a s b (ix2 i c) = agg (ent a) (row s) i c + b (ix1 c) := by
  rw [← sum_rows]
  pointwise [p4]

/-- A matrix of 10000 rows is the function its entries are, when that is zero past them. -/
theorem row_eq {n : ℕ} (X : FVec Ideal ⟨2, ![10000, n]⟩ .f32) (f : ℕ → Fin n → EReal) (h : ∀ (i : Fin 10000) (c : Fin n), X (ix2 i c) = f i c)
    (h0 : ∀ i, ¬i < 10000 → ∀ c, f i c = 0) : row X = f := by
  funext i c
  by_cases hi : i < 10000
  · exact (row_of X ⟨i, hi⟩ c).trans (h ⟨i, hi⟩ c)
  · unfold row; rw [dif_neg hi, h0 i hi]

/-- The reference's result at an index. -/
theorem res_at (x : FVec Ideal S10000x128 .f32) (a : FVec Ideal S10000x10000 .f32) (g b : FVec Ideal S128 .f32)
    (w1 : FVec Ideal S128x256 .f32) (b1 : FVec Ideal S256 .f32) (w2 : FVec Ideal S256x128 .f32) (b2 : FVec Ideal S128 .f32)
    (w3 : FVec Ideal S128x64 .f32) (b3 : FVec Ideal S64 .f32) (w4 : FVec Ideal S64x128 .f32) (b4 : FVec Ideal S128 .f32)
    (i : Fin 10000) (c : Fin 128) :
    p4 a (p3 a (p2 a (p1 a (p0 x g b w1) b1 w2) b2 w3) b3 w4) b4 (ix2 i c)
      = agg (ent a) (layer (ent a) (layer (ent a) (layer (ent a) (feat (row x) (fun k => g (ix1 k)) (fun k => b (ix1 k)) (fun k c => w1 (ix2 k c)))
          (fun j => b1 (ix1 j)) (fun j c => w2 (ix2 j c))) (fun j => b2 (ix1 j)) (fun j c => w3 (ix2 j c)))
          (fun j => b3 (ix1 j)) (fun j c => w4 (ix2 j c))) i c + b4 (ix1 c) := by
  have h0 := row_eq _ _ (p0_at x g b w1) (fun i hi c => if_neg hi)
  have h1 := row_eq _ _ (p1_at a (p0 x g b w1) b1 w2) (fun i hi c => if_neg hi)
  have h2 := row_eq _ _ (p2_at a (p1 a (p0 x g b w1) b1 w2) b2 w3) (fun i hi c => if_neg hi)
  have h3 := row_eq _ _ (p3_at a (p2 a (p1 a (p0 x g b w1) b1 w2) b2 w3) b3 w4) (fun i hi c => if_neg hi)
  rw [p4_at, h3, h2, h1, h0]

/-- The reference runs to that result, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = p4 (m ((c.tc : Thread nD τ).loc main_arg1)) (p3 (m ((c.tc : Thread nD τ).loc main_arg1)) (p2 (m ((c.tc : Thread nD τ).loc main_arg1)) (p1 (m ((c.tc : Thread nD τ).loc main_arg1)) (p0 (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))) (m ((c.tc : Thread nD τ).loc main_arg9)) (m ((c.tc : Thread nD τ).loc main_arg10))) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Cert.ReferenceIdeal.Value.run m ρ

end Cert.ReferenceIdeal.Layered
-- ==== Proof.PureI.lean ====
/- What the bodies of the five calls store, read at an index: sums of products of extended reals. -/
module

public import proofs.«01_k».proof.Proof.Gen.KernelIdeal.Skeleton
public import proofs.«01_k».proof.Proof.Layers
public import Idealize.ShloMosaic.Lib.WordCmp

@[expose] public section

set_option maxRecDepth 16384

noncomputable section

namespace Cert.KernelIdeal.Value

open Cert.KernelIdeal Cert.KernelIdeal.Gen Cert.Layers
open Idealize.ShloMosaic Idealize.ShloMosaic.TcCoe Idealize.SL.Sem

/-- The bit of a row (or column) mask: entry `r` of block `b` of `n` lies before 10000. -/
theorem mask_at {α : Type} (n b r : ℕ) (h : n * b + r < 20000) (x y : α) :
    Scalar.select (IntOp.cmpi .slt (IntOp.addi (BitVec.ofNat 32 r) (Scalar.muli (BitVec.ofNat 32 b) (BitVec.ofNat 32 n))) 10000#32) x y
      = if n * b + r < 10000 then x else y := by
  have e : IntOp.addi (BitVec.ofNat 32 r) (Scalar.muli (BitVec.ofNat 32 b) (BitVec.ofNat 32 n)) = BitVec.ofNat 32 (n * b + r) := by
    change BitVec.ofNat 32 r + BitVec.ofNat 32 b * BitVec.ofNat 32 n = _
    rw [← BitVec.ofNat_mul, ← BitVec.ofNat_add, Nat.mul_comm b n, Nat.add_comm]
  rw [e]
  word_cmp

/-- What call 2 stores at row `r` of its block: a masked row is zero. -/
theorem pay2_at (i : grid2.Coords) (x1 : Vec Ideal S1280x10240 .fp8e4m3) (x2 : Vec Ideal S10240x128 .bf16)
    (x3 : Vec Ideal S1x128 .f32) (x4 : Vec Ideal S128x64 .f32) (r : Fin 1280) (c : Fin 64) :
    k2_pay1 (F := Ideal) i x1 x2 x3 x4 (ix2 r c)
      = if 1280 * (i 0).val + r.val < 10000 then
          ∑ j : Fin 128, max ((∑ κ : Fin 10240, x1 (ix2 r κ) * x2 (ix2 κ j)) + x3 (ix2 0 j)) 0 * x4 (ix2 j c)
        else 0 := by
  have hi : (i 0).val < 8 := (i 0).isLt
  pointwise [k2_pay1]
  exact mask_at 1280 _ _ (by omega) _ _

/-- What call 3 stores at row `r` of its block: a masked row is zero. -/
theorem pay3_at (i : grid3.Coords) (x1 : Vec Ideal S1280x10240 .fp8e4m3) (x2 : Vec Ideal S10240x64 .bf16)
    (x3 : Vec Ideal S1x64 .f32) (x4 : Vec Ideal S64x128 .f32) (r : Fin 1280) (c : Fin 128) :
    k3_pay1 (F := Ideal) i x1 x2 x3 x4 (ix2 r c)
      = if 1280 * (i 0).val + r.val < 10000 then
          ∑ j : Fin 64, max ((∑ κ : Fin 10240, x1 (ix2 r κ) * x2 (ix2 κ j)) + x3 (ix2 0 j)) 0 * x4 (ix2 j c)
        else 0 := by
  have hi : (i 0).val < 8 := (i 0).isLt
  pointwise [k3_pay1]
  exact mask_at 1280 _ _ (by omega) _ _

/-- What call 4 stores at row `r` of its block. -/
theorem pay4_at (x1 : Vec Ideal S1280x10240 .fp8e4m3) (x2 : Vec Ideal S10240x128 .bf16)
    (x3 : Vec Ideal S1x128 .f32) (r : Fin 1280) (c : Fin 128) :
    k4_pay1 (F := Ideal) x1 x2 x3 (ix2 r c)
      = (∑ κ : Fin 10240, x1 (ix2 r κ) * x2 (ix2 κ c)) + x3 (ix2 0 c) := by
  pointwise! [k4_pay1]

/-- What call 0 stores at row `r` of its block: a masked row is zero. -/
theorem pay0_at (i : grid0.Coords) (x1 : Vec Ideal S2048x128 .f32) (x2 : Vec Ideal S1x128 .f32)
    (x3 : Vec Ideal S1x128 .f32) (x4 : Vec Ideal S128x256 .f32) (r : Fin 2048) (c : Fin 256) :
    k0_pay1 (F := Ideal) i x1 x2 x3 x4 (ix2 r c)
      = if 2048 * (i 0).val + r.val < 10000 then
          proj (fun k => x1 (ix2 r k)) (fun k => x2 (ix2 0 k)) (fun k => x3 (ix2 0 k)) (fun k => x4 (ix2 k c))
        else 0 := by
  have hi : (i 0).val < 5 := (i 0).isLt
  pointwise [k0_pay1, proj, spread, mean]
  exact mask_at 2048 _ _ (by omega) _ _

/-- What call 1 stores of the adjacency block, all its columns being inside. -/
theorem pay3q_at (x : Vec Ideal S2048x2048 .f32) : k1_pay3 (F := Ideal) x = x := by
  funext j; pointwise! [k1_pay3, k1_pay2]

/-- What call 1 stores of the adjacency block at the last column point: a masked column is zero. -/
theorem pay9_at (b : ℕ) (hb : b < 5) (x : Vec Ideal S2048x2048 .f32) (r c : Fin 2048) :
    k1_pay9 (F := Ideal) (BitVec.ofNat 32 b) x (ix2 r c) = if 2048 * b + c.val < 10000 then x (ix2 r c) else 0 := by
  pointwise [k1_pay9, k1_pay8]
  exact mask_at 2048 _ _ (by omega) _ _

/-- The accumulator after the first column point. -/
theorem pay5_at (x1 : Vec Ideal S2048x256 .bf16) (x2 : Vec Ideal S2048x2048 .f32) (r : Fin 2048) (c : Fin 256) :
    k1_pay5 (F := Ideal) x1 x2 (ix2 r c) = ∑ κ : Fin 2048, x2 (ix2 r κ) * x1 (ix2 κ c) := by
  pointwise! [k1_pay5, k1_pay4, k1_pay2, k1_pay1]

/-- The accumulator after a middle column point. -/
theorem pay6_at (x1 : Vec Ideal S2048x256 .bf16) (x2 : Vec Ideal S2048x2048 .f32) (acc : Vec Ideal S2048x256 .f32)
    (r : Fin 2048) (c : Fin 256) :
    k1_pay6 (F := Ideal) x1 x2 acc (ix2 r c) = acc (ix2 r c) + ∑ κ : Fin 2048, x2 (ix2 r κ) * x1 (ix2 κ c) := by
  pointwise! [k1_pay6, k1_pay4, k1_pay2, k1_pay1]

/-- The accumulator after the last column point, masked columns counting nothing. -/
theorem pay12_at (b : ℕ) (hb : b < 5) (x1 : Vec Ideal S2048x256 .bf16) (x2 : Vec Ideal S2048x2048 .f32) (acc : Vec Ideal S2048x256 .f32)
    (r : Fin 2048) (c : Fin 256) :
    k1_pay12 (F := Ideal) (BitVec.ofNat 32 b) (k1_pay1 x1) x2 acc (ix2 r c)
      = acc (ix2 r c) + ∑ κ : Fin 2048, (if 2048 * b + κ.val < 10000 then x2 (ix2 r κ) else 0) * x1 (ix2 κ c) := by
  pointwise [k1_pay12, k1_pay10, k1_pay8, k1_pay1]
  refine congrArg _ (Finset.sum_congr rfl fun κ _ => ?_)
  refine (mask_at 2048 _ _ (by omega) _ _).trans ?_
  split <;> simp

/-- What call 1 stores of layer 1 at its last column point, from the finished accumulator: a masked row is zero. -/
theorem pay7_at (b : ℕ) (hb : b < 5) (acc : Vec Ideal S2048x256 .f32) (x4 : Vec Ideal S1x256 .f32)
    (x5 : Vec Ideal S256x128 .f32) (r : Fin 2048) (c : Fin 128) :
    k1_pay7 (F := Ideal) (k1_pay13 acc x4 x5) (k1_pay14 (BitVec.ofNat 32 b)) (Scalar.ofBits .f32 0x00000000#32) (ix2 r c)
      = if 2048 * b + r.val < 10000 then
          ∑ j : Fin 256, max (acc (ix2 r j) + x4 (ix2 0 j)) 0 * x5 (ix2 j c)
        else 0 := by
  pointwise [k1_pay7, k1_pay13, k1_pay14]
  exact mask_at 2048 _ _ (by omega) _ _

end Cert.KernelIdeal.Value
-- ==== Proof.FetchI.lean ====
/- What each fetch of the five calls leaves in a staging buffer, read at an index: the array's entry, on the part of the
   block that lies inside the array. -/
module

public import proofs.«01_k».proof.Proof.RunI
public import Idealize.ShloMosaic.Lib.Pipeline.ValueKit

@[expose] public section

set_option maxRecDepth 16384

noncomputable section

namespace Cert.KernelIdeal.Value

open Cert.KernelIdeal Cert.KernelIdeal.Gen Cert.Chain Cert.KernelIdeal.Run
open Idealize.ShloMosaic Idealize.ShloMosaic.TcCoe Idealize.SL.Sem Idealize.ShloMosaic.Pipeline

/-- A fetched block's entry inside the array is the array's. -/
theorem got_at {cfg : Cfg sig Λ₀} {V : Valuation τ sig (Elt Ideal)} {w : Fin cfg.W} {t : Fin cfg.N}
    {x : (cfg.win w).block.Idx → Elt Ideal (cfg.win w).elt} (h : Got cfg V w t x) (j : (cfg.win w).block.Idx)
    (hj : ∀ a, (j a).val < (cfg.win w).xsize (cfg.grid.coords t) a) :
    x j = ((cfg.win w).blk t).view.read (Elt Ideal) (V (Proc.devRef .tc (arrRef cfg.spec w))) (fun a => ⟨(j a).val, hj a⟩) := by
  obtain ⟨d, rfl⟩ := h
  exact (cfg.win w).fill_xinj (cfg.grid.coords t) d _ (fun a => ⟨(j a).val, hj a⟩)

/-- Where window 0 of call 0 lies at a point, and how much of its block is inside the array. -/
theorem geo0_0 : ∀ t : Fin cfg0.N, win0_0.index t = ![(grid0.coords t 0).val, 0]
    ∧ win0_0.xsize (grid0.coords t) 0 = min 2048 (10000 - 2048 * (grid0.coords t 0).val)
    ∧ win0_0.xsize (grid0.coords t) 1 = 128 :=
  (by decide +kernel : ∀ t : Fin grid0.N, _)

/-- Window 0: what is fetched of `main_arg0`. -/
theorem got0_0 {V : Valuation τ sig (Elt Ideal)} {t : Fin cfg0.N} {x : Vec Ideal S2048x128 .f32} (h : Got cfg0 V 0 t x)
    (r : Fin 2048) (c : Fin 128) (hr : 2048 * (grid0.coords t 0).val + r.val < 10000)  :
    x (ix2 r c) = (V (Proc.devRef .tc main_arg0) : Vec Ideal S10000x128 .f32) (ix2 ⟨_, hr⟩ c) := by
  obtain ⟨e, e0, e1⟩ := geo0_0 t
  refine (got_at h (ix2 r c) ?_).trans ?_
  · intro a
    fin_cases a
    · change r.val < win0_0.xsize (grid0.coords t) 0
      rw [e0]; omega
    · change c.val < win0_0.xsize (grid0.coords t) 1
      rw [e1]; omega
  · blk_simp
    blk_ext [e]

/-- Where window 1 of call 0 lies at a point, and how much of its block is inside the array. -/
theorem geo0_1 : ∀ t : Fin cfg0.N, win0_1.index t = ![0, 0]
    ∧ win0_1.xsize (grid0.coords t) 0 = 1
    ∧ win0_1.xsize (grid0.coords t) 1 = 128 :=
  (by decide +kernel : ∀ t : Fin grid0.N, _)

/-- Window 1: what is fetched of `main_v0`. -/
theorem got0_1 {V : Valuation τ sig (Elt Ideal)} {t : Fin cfg0.N} {x : Vec Ideal S1x128 .f32} (h : Got cfg0 V 1 t x)
    (r : Fin 1) (c : Fin 128)   :
    x (ix2 r c) = (V (Proc.devRef .tc main_v0) : Vec Ideal S1x128 .f32) (ix2 r c) := by
  obtain ⟨e, e0, e1⟩ := geo0_1 t
  refine (got_at h (ix2 r c) ?_).trans ?_
  · intro a
    fin_cases a
    · change r.val < win0_1.xsize (grid0.coords t) 0
      rw [e0]; omega
    · change c.val < win0_1.xsize (grid0.coords t) 1
      rw [e1]; omega
  · blk_simp
    blk_ext [e]

/-- Where window 2 of call 0 lies at a point, and how much of its block is inside the array. -/
theorem geo0_2 : ∀ t : Fin cfg0.N, win0_2.index t = ![0, 0]
    ∧ win0_2.xsize (grid0.coords t) 0 = 1
    ∧ win0_2.xsize (grid0.coords t) 1 = 128 :=
  (by decide +kernel : ∀ t : Fin grid0.N, _)

/-- Window 2: what is fetched of `main_v1`. -/
theorem got0_2 {V : Valuation τ sig (Elt Ideal)} {t : Fin cfg0.N} {x : Vec Ideal S1x128 .f32} (h : Got cfg0 V 2 t x)
    (r : Fin 1) (c : Fin 128)   :
    x (ix2 r c) = (V (Proc.devRef .tc main_v1) : Vec Ideal S1x128 .f32) (ix2 r c) := by
  obtain ⟨e, e0, e1⟩ := geo0_2 t
  refine (got_at h (ix2 r c) ?_).trans ?_
  · intro a
    fin_cases a
    · change r.val < win0_2.xsize (grid0.coords t) 0
      rw [e0]; omega
    · change c.val < win0_2.xsize (grid0.coords t) 1
      rw [e1]; omega
  · blk_simp
    blk_ext [e]

/-- Where window 3 of call 0 lies at a point, and how much of its block is inside the array. -/
theorem geo0_3 : ∀ t : Fin cfg0.N, win0_3.index t = ![0, 0]
    ∧ win0_3.xsize (grid0.coords t) 0 = 128
    ∧ win0_3.xsize (grid0.coords t) 1 = 256 :=
  (by decide +kernel : ∀ t : Fin grid0.N, _)

/-- Window 3: what is fetched of `main_arg4`. -/
theorem got0_3 {V : Valuation τ sig (Elt Ideal)} {t : Fin cfg0.N} {x : Vec Ideal S128x256 .f32} (h : Got cfg0 V 3 t x)
    (r : Fin 128) (c : Fin 256)   :
    x (ix2 r c) = (V (Proc.devRef .tc main_arg4) : Vec Ideal S128x256 .f32) (ix2 r c) := by
  obtain ⟨e, e0, e1⟩ := geo0_3 t
  refine (got_at h (ix2 r c) ?_).trans ?_
  · intro a
    fin_cases a
    · change r.val < win0_3.xsize (grid0.coords t) 0
      rw [e0]; omega
    · change c.val < win0_3.xsize (grid0.coords t) 1
      rw [e1]; omega
  · blk_simp
    blk_ext [e]

/-- Where window 0 of call 1 lies at a point, and how much of its block is inside the array. -/
theorem geo1_0 : ∀ t : Fin cfg1.N, win1_0.index t = ![(grid1.coords t 0).val, (grid1.coords t 1).val]
    ∧ win1_0.xsize (grid1.coords t) 0 = min 2048 (10000 - 2048 * (grid1.coords t 0).val)
    ∧ win1_0.xsize (grid1.coords t) 1 = min 2048 (10000 - 2048 * (grid1.coords t 1).val) :=
  (by decide +kernel : ∀ t : Fin grid1.N, _)

/-- Window 0: what is fetched of `main_arg1`. -/
theorem got1_0 {V : Valuation τ sig (Elt Ideal)} {t : Fin cfg1.N} {x : Vec Ideal S2048x2048 .f32} (h : Got cfg1 V 0 t x)
    (r : Fin 2048) (c : Fin 2048) (hr : 2048 * (grid1.coords t 0).val + r.val < 10000) (hc : 2048 * (grid1.coords t 1).val + c.val < 10000) :
    x (ix2 r c) = (V (Proc.devRef .tc main_arg1) : Vec Ideal S10000x10000 .f32) (ix2 ⟨_, hr⟩ ⟨_, hc⟩) := by
  obtain ⟨e, e0, e1⟩ := geo1_0 t
  refine (got_at h (ix2 r c) ?_).trans ?_
  · intro a
    fin_cases a
    · change r.val < win1_0.xsize (grid1.coords t) 0
      rw [e0]; omega
    · change c.val < win1_0.xsize (grid1.coords t) 1
      rw [e1]; omega
  · blk_simp
    blk_ext [e]

/-- Where window 1 of call 1 lies at a point, and how much of its block is inside the array. -/
theorem geo1_1 : ∀ t : Fin cfg1.N, win1_1.index t = ![(grid1.coords t 1).val, 0]
    ∧ win1_1.xsize (grid1.coords t) 0 = 2048
    ∧ win1_1.xsize (grid1.coords t) 1 = 256 :=
  (by decide +kernel : ∀ t : Fin grid1.N, _)

/-- Window 1: what is fetched of `main_v2`. -/
theorem got1_1 {V : Valuation τ sig (Elt Ideal)} {t : Fin cfg1.N} {x : Vec Ideal S2048x256 .bf16} (h : Got cfg1 V 1 t x)
    (r : Fin 2048) (c : Fin 256) (hr : 2048 * (grid1.coords t 1).val + r.val < 10240)  :
    x (ix2 r c) = (V (Proc.devRef .tc main_v2) : Vec Ideal S10240x256 .bf16) (ix2 ⟨_, hr⟩ c) := by
  obtain ⟨e, e0, e1⟩ := geo1_1 t
  refine (got_at h (ix2 r c) ?_).trans ?_
  · intro a
    fin_cases a
    · change r.val < win1_1.xsize (grid1.coords t) 0
      rw [e0]; omega
    · change c.val < win1_1.xsize (grid1.coords t) 1
      rw [e1]; omega
  · blk_simp
    blk_ext [e]

/-- Where window 2 of call 1 lies at a point, and how much of its block is inside the array. -/
theorem geo1_2 : ∀ t : Fin cfg1.N, win1_2.index t = ![0, 0]
    ∧ win1_2.xsize (grid1.coords t) 0 = 1
    ∧ win1_2.xsize (grid1.coords t) 1 = 256 :=
  (by decide +kernel : ∀ t : Fin grid1.N, _)

/-- Window 2: what is fetched of `main_v3`. -/
theorem got1_2 {V : Valuation τ sig (Elt Ideal)} {t : Fin cfg1.N} {x : Vec Ideal S1x256 .f32} (h : Got cfg1 V 2 t x)
    (r : Fin 1) (c : Fin 256)   :
    x (ix2 r c) = (V (Proc.devRef .tc main_v3) : Vec Ideal S1x256 .f32) (ix2 r c) := by
  obtain ⟨e, e0, e1⟩ := geo1_2 t
  refine (got_at h (ix2 r c) ?_).trans ?_
  · intro a
    fin_cases a
    · change r.val < win1_2.xsize (grid1.coords t) 0
      rw [e0]; omega
    · change c.val < win1_2.xsize (grid1.coords t) 1
      rw [e1]; omega
  · blk_simp
    blk_ext [e]

/-- Where window 3 of call 1 lies at a point, and how much of its block is inside the array. -/
theorem geo1_3 : ∀ t : Fin cfg1.N, win1_3.index t = ![0, 0]
    ∧ win1_3.xsize (grid1.coords t) 0 = 256
    ∧ win1_3.xsize (grid1.coords t) 1 = 128 :=
  (by decide +kernel : ∀ t : Fin grid1.N, _)

/-- Window 3: what is fetched of `main_arg6`. -/
theorem got1_3 {V : Valuation τ sig (Elt Ideal)} {t : Fin cfg1.N} {x : Vec Ideal S256x128 .f32} (h : Got cfg1 V 3 t x)
    (r : Fin 256) (c : Fin 128)   :
    x (ix2 r c) = (V (Proc.devRef .tc main_arg6) : Vec Ideal S256x128 .f32) (ix2 r c) := by
  obtain ⟨e, e0, e1⟩ := geo1_3 t
  refine (got_at h (ix2 r c) ?_).trans ?_
  · intro a
    fin_cases a
    · change r.val < win1_3.xsize (grid1.coords t) 0
      rw [e0]; omega
    · change c.val < win1_3.xsize (grid1.coords t) 1
      rw [e1]; omega
  · blk_simp
    blk_ext [e]

/-- Where window 0 of call 2 lies at a point, and how much of its block is inside the array. -/
theorem geo2_0 : ∀ t : Fin cfg2.N, win2_0.index t = ![(grid2.coords t 0).val, 0]
    ∧ win2_0.xsize (grid2.coords t) 0 = min 1280 (10000 - 1280 * (grid2.coords t 0).val)
    ∧ win2_0.xsize (grid2.coords t) 1 = 10240 :=
  (by decide +kernel : ∀ t : Fin grid2.N, _)

/-- Window 0: what is fetched of `main_v4_1`. -/
theorem got2_0 {V : Valuation τ sig (Elt Ideal)} {t : Fin cfg2.N} {x : Vec Ideal S1280x10240 .fp8e4m3} (h : Got cfg2 V 0 t x)
    (r : Fin 1280) (c : Fin 10240) (hr : 1280 * (grid2.coords t 0).val + r.val < 10000)  :
    x (ix2 r c) = (V (Proc.devRef .tc main_v4_1) : Vec Ideal S10000x10240 .fp8e4m3) (ix2 ⟨_, hr⟩ c) := by
  obtain ⟨e, e0, e1⟩ := geo2_0 t
  refine (got_at h (ix2 r c) ?_).trans ?_
  · intro a
    fin_cases a
    · change r.val < win2_0.xsize (grid2.coords t) 0
      rw [e0]; omega
    · change c.val < win2_0.xsize (grid2.coords t) 1
      rw [e1]; omega
  · blk_simp
    blk_ext [e]

/-- Where window 1 of call 2 lies at a point, and how much of its block is inside the array. -/
theorem geo2_1 : ∀ t : Fin cfg2.N, win2_1.index t = ![0, 0]
    ∧ win2_1.xsize (grid2.coords t) 0 = 10240
    ∧ win2_1.xsize (grid2.coords t) 1 = 128 :=
  (by decide +kernel : ∀ t : Fin grid2.N, _)

/-- Window 1: what is fetched of `main_v4_0`. -/
theorem got2_1 {V : Valuation τ sig (Elt Ideal)} {t : Fin cfg2.N} {x : Vec Ideal S10240x128 .bf16} (h : Got cfg2 V 1 t x)
    (r : Fin 10240) (c : Fin 128)   :
    x (ix2 r c) = (V (Proc.devRef .tc main_v4_0) : Vec Ideal S10240x128 .bf16) (ix2 r c) := by
  obtain ⟨e, e0, e1⟩ := geo2_1 t
  refine (got_at h (ix2 r c) ?_).trans ?_
  · intro a
    fin_cases a
    · change r.val < win2_1.xsize (grid2.coords t) 0
      rw [e0]; omega
    · change c.val < win2_1.xsize (grid2.coords t) 1
      rw [e1]; omega
  · blk_simp
    blk_ext [e]

/-- Where window 2 of call 2 lies at a point, and how much of its block is inside the array. -/
theorem geo2_2 : ∀ t : Fin cfg2.N, win2_2.index t = ![0, 0]
    ∧ win2_2.xsize (grid2.coords t) 0 = 1
    ∧ win2_2.xsize (grid2.coords t) 1 = 128 :=
  (by decide +kernel : ∀ t : Fin grid2.N, _)

/-- Window 2: what is fetched of `main_v5`. -/
theorem got2_2 {V : Valuation τ sig (Elt Ideal)} {t : Fin cfg2.N} {x : Vec Ideal S1x128 .f32} (h : Got cfg2 V 2 t x)
    (r : Fin 1) (c : Fin 128)   :
    x (ix2 r c) = (V (Proc.devRef .tc main_v5) : Vec Ideal S1x128 .f32) (ix2 r c) := by
  obtain ⟨e, e0, e1⟩ := geo2_2 t
  refine (got_at h (ix2 r c) ?_).trans ?_
  · intro a
    fin_cases a
    · change r.val < win2_2.xsize (grid2.coords t) 0
      rw [e0]; omega
    · change c.val < win2_2.xsize (grid2.coords t) 1
      rw [e1]; omega
  · blk_simp
    blk_ext [e]

/-- Where window 3 of call 2 lies at a point, and how much of its block is inside the array. -/
theorem geo2_3 : ∀ t : Fin cfg2.N, win2_3.index t = ![0, 0]
    ∧ win2_3.xsize (grid2.coords t) 0 = 128
    ∧ win2_3.xsize (grid2.coords t) 1 = 64 :=
  (by decide +kernel : ∀ t : Fin grid2.N, _)

/-- Window 3: what is fetched of `main_arg8`. -/
theorem got2_3 {V : Valuation τ sig (Elt Ideal)} {t : Fin cfg2.N} {x : Vec Ideal S128x64 .f32} (h : Got cfg2 V 3 t x)
    (r : Fin 128) (c : Fin 64)   :
    x (ix2 r c) = (V (Proc.devRef .tc main_arg8) : Vec Ideal S128x64 .f32) (ix2 r c) := by
  obtain ⟨e, e0, e1⟩ := geo2_3 t
  refine (got_at h (ix2 r c) ?_).trans ?_
  · intro a
    fin_cases a
    · change r.val < win2_3.xsize (grid2.coords t) 0
      rw [e0]; omega
    · change c.val < win2_3.xsize (grid2.coords t) 1
      rw [e1]; omega
  · blk_simp
    blk_ext [e]

/-- Where window 0 of call 3 lies at a point, and how much of its block is inside the array. -/
theorem geo3_0 : ∀ t : Fin cfg3.N, win3_0.index t = ![(grid3.coords t 0).val, 0]
    ∧ win3_0.xsize (grid3.coords t) 0 = min 1280 (10000 - 1280 * (grid3.coords t 0).val)
    ∧ win3_0.xsize (grid3.coords t) 1 = 10240 :=
  (by decide +kernel : ∀ t : Fin grid3.N, _)

/-- Window 0: what is fetched of `main_v4_1`. -/
theorem got3_0 {V : Valuation τ sig (Elt Ideal)} {t : Fin cfg3.N} {x : Vec Ideal S1280x10240 .fp8e4m3} (h : Got cfg3 V 0 t x)
    (r : Fin 1280) (c : Fin 10240) (hr : 1280 * (grid3.coords t 0).val + r.val < 10000)  :
    x (ix2 r c) = (V (Proc.devRef .tc main_v4_1) : Vec Ideal S10000x10240 .fp8e4m3) (ix2 ⟨_, hr⟩ c) := by
  obtain ⟨e, e0, e1⟩ := geo3_0 t
  refine (got_at h (ix2 r c) ?_).trans ?_
  · intro a
    fin_cases a
    · change r.val < win3_0.xsize (grid3.coords t) 0
      rw [e0]; omega
    · change c.val < win3_0.xsize (grid3.coords t) 1
      rw [e1]; omega
  · blk_simp
    blk_ext [e]

/-- Where window 1 of call 3 lies at a point, and how much of its block is inside the array. -/
theorem geo3_1 : ∀ t : Fin cfg3.N, win3_1.index t = ![0, 0]
    ∧ win3_1.xsize (grid3.coords t) 0 = 10240
    ∧ win3_1.xsize (grid3.coords t) 1 = 64 :=
  (by decide +kernel : ∀ t : Fin grid3.N, _)

/-- Window 1: what is fetched of `main_v6`. -/
theorem got3_1 {V : Valuation τ sig (Elt Ideal)} {t : Fin cfg3.N} {x : Vec Ideal S10240x64 .bf16} (h : Got cfg3 V 1 t x)
    (r : Fin 10240) (c : Fin 64)   :
    x (ix2 r c) = (V (Proc.devRef .tc main_v6) : Vec Ideal S10240x64 .bf16) (ix2 r c) := by
  obtain ⟨e, e0, e1⟩ := geo3_1 t
  refine (got_at h (ix2 r c) ?_).trans ?_
  · intro a
    fin_cases a
    · change r.val < win3_1.xsize (grid3.coords t) 0
      rw [e0]; omega
    · change c.val < win3_1.xsize (grid3.coords t) 1
      rw [e1]; omega
  · blk_simp
    blk_ext [e]

/-- Where window 2 of call 3 lies at a point, and how much of its block is inside the array. -/
theorem geo3_2 : ∀ t : Fin cfg3.N, win3_2.index t = ![0, 0]
    ∧ win3_2.xsize (grid3.coords t) 0 = 1
    ∧ win3_2.xsize (grid3.coords t) 1 = 64 :=
  (by decide +kernel : ∀ t : Fin grid3.N, _)

/-- Window 2: what is fetched of `main_v7`. -/
theorem got3_2 {V : Valuation τ sig (Elt Ideal)} {t : Fin cfg3.N} {x : Vec Ideal S1x64 .f32} (h : Got cfg3 V 2 t x)
    (r : Fin 1) (c : Fin 64)   :
    x (ix2 r c) = (V (Proc.devRef .tc main_v7) : Vec Ideal S1x64 .f32) (ix2 r c) := by
  obtain ⟨e, e0, e1⟩ := geo3_2 t
  refine (got_at h (ix2 r c) ?_).trans ?_
  · intro a
    fin_cases a
    · change r.val < win3_2.xsize (grid3.coords t) 0
      rw [e0]; omega
    · change c.val < win3_2.xsize (grid3.coords t) 1
      rw [e1]; omega
  · blk_simp
    blk_ext [e]

/-- Where window 3 of call 3 lies at a point, and how much of its block is inside the array. -/
theorem geo3_3 : ∀ t : Fin cfg3.N, win3_3.index t = ![0, 0]
    ∧ win3_3.xsize (grid3.coords t) 0 = 64
    ∧ win3_3.xsize (grid3.coords t) 1 = 128 :=
  (by decide +kernel : ∀ t : Fin grid3.N, _)

/-- Window 3: what is fetched of `main_arg10`. -/
theorem got3_3 {V : Valuation τ sig (Elt Ideal)} {t : Fin cfg3.N} {x : Vec Ideal S64x128 .f32} (h : Got cfg3 V 3 t x)
    (r : Fin 64) (c : Fin 128)   :
    x (ix2 r c) = (V (Proc.devRef .tc main_arg10) : Vec Ideal S64x128 .f32) (ix2 r c) := by
  obtain ⟨e, e0, e1⟩ := geo3_3 t
  refine (got_at h (ix2 r c) ?_).trans ?_
  · intro a
    fin_cases a
    · change r.val < win3_3.xsize (grid3.coords t) 0
      rw [e0]; omega
    · change c.val < win3_3.xsize (grid3.coords t) 1
      rw [e1]; omega
  · blk_simp
    blk_ext [e]

/-- Where window 0 of call 4 lies at a point, and how much of its block is inside the array. -/
theorem geo4_0 : ∀ t : Fin cfg4.N, win4_0.index t = ![(grid4.coords t 0).val, 0]
    ∧ win4_0.xsize (grid4.coords t) 0 = min 1280 (10000 - 1280 * (grid4.coords t 0).val)
    ∧ win4_0.xsize (grid4.coords t) 1 = 10240 :=
  (by decide +kernel : ∀ t : Fin grid4.N, _)

/-- Window 0: what is fetched of `main_v4_1`. -/
theorem got4_0 {V : Valuation τ sig (Elt Ideal)} {t : Fin cfg4.N} {x : Vec Ideal S1280x10240 .fp8e4m3} (h : Got cfg4 V 0 t x)
    (r : Fin 1280) (c : Fin 10240) (hr : 1280 * (grid4.coords t 0).val + r.val < 10000)  :
    x (ix2 r c) = (V (Proc.devRef .tc main_v4_1) : Vec Ideal S10000x10240 .fp8e4m3) (ix2 ⟨_, hr⟩ c) := by
  obtain ⟨e, e0, e1⟩ := geo4_0 t
  refine (got_at h (ix2 r c) ?_).trans ?_
  · intro a
    fin_cases a
    · change r.val < win4_0.xsize (grid4.coords t) 0
      rw [e0]; omega
    · change c.val < win4_0.xsize (grid4.coords t) 1
      rw [e1]; omega
  · blk_simp
    blk_ext [e]

/-- Where window 1 of call 4 lies at a point, and how much of its block is inside the array. -/
theorem geo4_1 : ∀ t : Fin cfg4.N, win4_1.index t = ![0, 0]
    ∧ win4_1.xsize (grid4.coords t) 0 = 10240
    ∧ win4_1.xsize (grid4.coords t) 1 = 128 :=
  (by decide +kernel : ∀ t : Fin grid4.N, _)

/-- Window 1: what is fetched of `main_v8`. -/
theorem got4_1 {V : Valuation τ sig (Elt Ideal)} {t : Fin cfg4.N} {x : Vec Ideal S10240x128 .bf16} (h : Got cfg4 V 1 t x)
    (r : Fin 10240) (c : Fin 128)   :
    x (ix2 r c) = (V (Proc.devRef .tc main_v8) : Vec Ideal S10240x128 .bf16) (ix2 r c) := by
  obtain ⟨e, e0, e1⟩ := geo4_1 t
  refine (got_at h (ix2 r c) ?_).trans ?_
  · intro a
    fin_cases a
    · change r.val < win4_1.xsize (grid4.coords t) 0
      rw [e0]; omega
    · change c.val < win4_1.xsize (grid4.coords t) 1
      rw [e1]; omega
  · blk_simp
    blk_ext [e]

/-- Where window 2 of call 4 lies at a point, and how much of its block is inside the array. -/
theorem geo4_2 : ∀ t : Fin cfg4.N, win4_2.index t = ![0, 0]
    ∧ win4_2.xsize (grid4.coords t) 0 = 1
    ∧ win4_2.xsize (grid4.coords t) 1 = 128 :=
  (by decide +kernel : ∀ t : Fin grid4.N, _)

/-- Window 2: what is fetched of `main_v9`. -/
theorem got4_2 {V : Valuation τ sig (Elt Ideal)} {t : Fin cfg4.N} {x : Vec Ideal S1x128 .f32} (h : Got cfg4 V 2 t x)
    (r : Fin 1) (c : Fin 128)   :
    x (ix2 r c) = (V (Proc.devRef .tc main_v9) : Vec Ideal S1x128 .f32) (ix2 r c) := by
  obtain ⟨e, e0, e1⟩ := geo4_2 t
  refine (got_at h (ix2 r c) ?_).trans ?_
  · intro a
    fin_cases a
    · change r.val < win4_2.xsize (grid4.coords t) 0
      rw [e0]; omega
    · change c.val < win4_2.xsize (grid4.coords t) 1
      rw [e1]; omega
  · blk_simp
    blk_ext [e]

end Cert.KernelIdeal.Value
-- ==== Proof.HoldsI.lean ====
/- The predicates on what each body leaves, in the mathematics' own terms, and the five bodies keeping them. -/
module

public import proofs.«01_k».proof.Proof.PureI
public import proofs.«01_k».proof.Proof.FetchI

@[expose] public section

set_option maxRecDepth 16384

noncomputable section

namespace Cert.KernelIdeal.Value

open Cert.KernelIdeal Cert.KernelIdeal.Gen Cert.Chain Cert.KernelIdeal.Run Cert.Layers
open Idealize.ShloMosaic Idealize.ShloMosaic.TcCoe Idealize.SL.Sem Idealize.ShloMosaic.Pipeline

/-- The features. -/
abbrev aX (V : Valuation τ sig (Elt Ideal)) : Vec Ideal S10000x128 .f32 := V (Proc.devRef .tc main_arg0)
/-- The adjacency matrix. -/
abbrev aA (V : Valuation τ sig (Elt Ideal)) : Vec Ideal S10000x10000 .f32 := V (Proc.devRef .tc main_arg1)
/-- The scale, as one row. -/
abbrev aG (V : Valuation τ sig (Elt Ideal)) : Vec Ideal S1x128 .f32 := V (Proc.devRef .tc main_v0)
/-- The shift, as one row. -/
abbrev aB (V : Valuation τ sig (Elt Ideal)) : Vec Ideal S1x128 .f32 := V (Proc.devRef .tc main_v1)
/-- The first weights. -/
abbrev aW1 (V : Valuation τ sig (Elt Ideal)) : Vec Ideal S128x256 .f32 := V (Proc.devRef .tc main_arg4)
/-- The projected features, padded. -/
abbrev aS (V : Valuation τ sig (Elt Ideal)) : Vec Ideal S10240x256 .bf16 := V (Proc.devRef .tc main_v2)
/-- The first bias, as one row. -/
abbrev aB1 (V : Valuation τ sig (Elt Ideal)) : Vec Ideal S1x256 .f32 := V (Proc.devRef .tc main_v3)
/-- The second weights. -/
abbrev aW2 (V : Valuation τ sig (Elt Ideal)) : Vec Ideal S256x128 .f32 := V (Proc.devRef .tc main_arg6)
/-- Layer 1 projected, padded. -/
abbrev aH1 (V : Valuation τ sig (Elt Ideal)) : Vec Ideal S10240x128 .bf16 := V (Proc.devRef .tc main_v4_0)
/-- The narrow copy of the adjacency matrix, its columns padded. -/
abbrev aQ (V : Valuation τ sig (Elt Ideal)) : Vec Ideal S10000x10240 .fp8e4m3 := V (Proc.devRef .tc main_v4_1)
/-- The second bias, as one row. -/
abbrev aB2 (V : Valuation τ sig (Elt Ideal)) : Vec Ideal S1x128 .f32 := V (Proc.devRef .tc main_v5)
/-- The third weights. -/
abbrev aW3 (V : Valuation τ sig (Elt Ideal)) : Vec Ideal S128x64 .f32 := V (Proc.devRef .tc main_arg8)
/-- Layer 2 projected, padded. -/
abbrev aH2 (V : Valuation τ sig (Elt Ideal)) : Vec Ideal S10240x64 .bf16 := V (Proc.devRef .tc main_v6)
/-- The third bias, as one row. -/
abbrev aB3 (V : Valuation τ sig (Elt Ideal)) : Vec Ideal S1x64 .f32 := V (Proc.devRef .tc main_v7)
/-- The fourth weights. -/
abbrev aW4 (V : Valuation τ sig (Elt Ideal)) : Vec Ideal S64x128 .f32 := V (Proc.devRef .tc main_arg10)
/-- Layer 3 projected, padded. -/
abbrev aH3 (V : Valuation τ sig (Elt Ideal)) : Vec Ideal S10240x128 .bf16 := V (Proc.devRef .tc main_v8)
/-- The fourth bias, as one row. -/
abbrev aB4 (V : Valuation τ sig (Elt Ideal)) : Vec Ideal S1x128 .f32 := V (Proc.devRef .tc main_v9)

/-- Call 0's result at a row, from the arrays it was entered with. -/
def spec0 (V : Valuation τ sig (Elt Ideal)) : ℕ → Fin 256 → EReal :=
  feat (row (aX V)) (fun k => aG V (ix2 0 k)) (fun k => aB V (ix2 0 k)) (fun k c => aW1 V (ix2 k c))

/-- Call 1's hidden layer at a row, from the arrays it was entered with. -/
def spec1 (V : Valuation τ sig (Elt Ideal)) : ℕ → Fin 128 → EReal :=
  wide (ent (aA V)) (row (aS V)) (fun j => aB1 V (ix2 0 j)) (fun j c => aW2 V (ix2 j c))

/-- Call 2's result at a row, from the arrays it was entered with. -/
def spec2 (V : Valuation τ sig (Elt Ideal)) : ℕ → Fin 64 → EReal :=
  wide (ent (aQ V)) (row (aH1 V)) (fun j => aB2 V (ix2 0 j)) (fun j c => aW3 V (ix2 j c))

/-- Call 3's result at a row, from the arrays it was entered with. -/
def spec3 (V : Valuation τ sig (Elt Ideal)) : ℕ → Fin 128 → EReal :=
  wide (ent (aQ V)) (row (aH2 V)) (fun j => aB3 V (ix2 0 j)) (fun j c => aW4 V (ix2 j c))

/-- Call 4's result at a row, from the arrays it was entered with. -/
def spec4 (V : Valuation τ sig (Elt Ideal)) (i : ℕ) (c : Fin 128) : EReal :=
  (∑ κ ∈ Finset.range 10240, ent (aQ V) i κ * row (aH3 V) κ c) + aB4 V (ix2 0 c)

/-- What each body leaves: the mathematics' rows, the accumulator a sum over the rows seen so far. Where a block's rows
    lie outside the arrays nothing is said. -/
def preds : Preds Ideal where
  P0 V t X := ∀ (r : Fin 2048) (c : Fin 256), X (ix2 r c) = spec0 V (2048 * (grid0.coords t 0).val + r.val) c
  Ph V t X := ∀ (r : Fin 2048) (c : Fin 128), X (ix2 r c) = spec1 V (2048 * (grid1.coords t 0).val + r.val) c
  Pq V t X := ∀ (r c : Fin 2048), 2048 * (grid1.coords t 0).val + r.val < 10000 →
    X (ix2 r c) = ent (aA V) (2048 * (grid1.coords t 0).val + r.val) (2048 * (grid1.coords t 1).val + c.val)
  Acc V n X := n % 5 ≠ 0 → ∀ (r : Fin 2048) (c : Fin 256), 2048 * (n / 5) + r.val < 10000 →
    X (ix2 r c) = ∑ κ ∈ Finset.range (2048 * (n % 5)), ent (aA V) (2048 * (n / 5) + r.val) κ * row (aS V) κ c
  P2 V t X := ∀ (r : Fin 1280) (c : Fin 64), X (ix2 r c) = spec2 V (1280 * (grid2.coords t 0).val + r.val) c
  P3 V t X := ∀ (r : Fin 1280) (c : Fin 128), X (ix2 r c) = spec3 V (1280 * (grid3.coords t 0).val + r.val) c
  P4 V t X := ∀ (r : Fin 1280) (c : Fin 128), 1280 * (grid4.coords t 0).val + r.val < 10000 →
    X (ix2 r c) = spec4 V (1280 * (grid4.coords t 0).val + r.val) c

/-- An entry inside the matrix. -/
theorem ent_in {m n : ℕ} (X : (⟨2, ![m, n]⟩ : Shape).Idx → EReal) {i k : ℕ} (hi : i < m) (hk : k < n) :
    ent X i k = X (ix2 ⟨i, hi⟩ ⟨k, hk⟩) := ent_of X ⟨i, hi⟩ ⟨k, hk⟩

/-- A row inside the matrix. -/
theorem row_in {m n : ℕ} (X : (⟨2, ![m, n]⟩ : Shape).Idx → EReal) {i : ℕ} (hi : i < m) (c : Fin n) :
    row X i c = X (ix2 ⟨i, hi⟩ c) := row_of X ⟨i, hi⟩ c

/-- Call 0's body stores the projected features of its rows. -/
theorem holds0 (V : Valuation τ sig (Elt Ideal)) (t : Fin cfg0.N) (x1 x2 x3 x4) (g1 : Got cfg0 V 0 t x1) (g2 : Got cfg0 V 1 t x2)
    (g3 : Got cfg0 V 2 t x3) (g4 : Got cfg0 V 3 t x4) : preds.P0 V t (k0_pay1 (grid0.coords t) x1 x2 x3 x4) := by
  intro r c
  rw [pay0_at]
  unfold spec0 feat
  split
  next h =>
    have e1 : (fun k => (x1 (ix2 r k) : EReal)) = row (aX V) (2048 * (grid0.coords t 0).val + r.val) :=
      funext fun k => (got0_0 g1 r k h).trans (row_in (aX V) h k).symm
    have e2 : (fun k => (x2 (ix2 0 k) : EReal)) = fun k => aG V (ix2 0 k) := funext fun k => got0_1 g2 0 k
    have e3 : (fun k => (x3 (ix2 0 k) : EReal)) = fun k => aB V (ix2 0 k) := funext fun k => got0_2 g3 0 k
    have e4 : (fun k => (x4 (ix2 k c) : EReal)) = fun k => aW1 V (ix2 k c) := funext fun k => got0_3 g4 k c
    rw [e1, e2, e3, e4]
  next => rfl

/-- Call 2's body stores layer 2 of its rows, projected. -/
theorem holds2 (V : Valuation τ sig (Elt Ideal)) (t : Fin cfg2.N) (x1 x2 x3 x4) (g1 : Got cfg2 V 0 t x1) (g2 : Got cfg2 V 1 t x2)
    (g3 : Got cfg2 V 2 t x3) (g4 : Got cfg2 V 3 t x4) : preds.P2 V t (k2_pay1 (grid2.coords t) x1 x2 x3 x4) := by
  intro r c
  rw [pay2_at]
  unfold spec2 wide
  split
  next h =>
    refine Finset.sum_congr rfl fun j _ => ?_
    rw [Finset.sum_range, got2_2 g3 0 j, got2_3 g4 j c]
    refine congrArg (fun z => max (z + _) 0 * _) (Finset.sum_congr rfl fun κ _ => ?_)
    rw [got2_0 g1 r κ h, got2_1 g2 κ j, ent_in (aQ V) h κ.isLt, row_of]
  next => rfl

/-- Call 3's body stores layer 3 of its rows, projected. -/
theorem holds3 (V : Valuation τ sig (Elt Ideal)) (t : Fin cfg3.N) (x1 x2 x3 x4) (g1 : Got cfg3 V 0 t x1) (g2 : Got cfg3 V 1 t x2)
    (g3 : Got cfg3 V 2 t x3) (g4 : Got cfg3 V 3 t x4) : preds.P3 V t (k3_pay1 (grid3.coords t) x1 x2 x3 x4) := by
  intro r c
  rw [pay3_at]
  unfold spec3 wide
  split
  next h =>
    refine Finset.sum_congr rfl fun j _ => ?_
    rw [Finset.sum_range, got3_2 g3 0 j, got3_3 g4 j c]
    refine congrArg (fun z => max (z + _) 0 * _) (Finset.sum_congr rfl fun κ _ => ?_)
    rw [got3_0 g1 r κ h, got3_1 g2 κ j, ent_in (aQ V) h κ.isLt, row_of]
  next => rfl

/-- Call 4's body stores the result's rows. -/
theorem holds4 (V : Valuation τ sig (Elt Ideal)) (t : Fin cfg4.N) (x1 x2 x3) (g1 : Got cfg4 V 0 t x1) (g2 : Got cfg4 V 1 t x2)
    (g3 : Got cfg4 V 2 t x3) : preds.P4 V t (k4_pay1 x1 x2 x3) := by
  intro r c h
  rw [pay4_at]
  unfold spec4
  rw [Finset.sum_range, got4_2 g3 0 c]
  refine congrArg (fun z => z + _) (Finset.sum_congr rfl fun κ _ => ?_)
  rw [got4_0 g1 r κ h, got4_1 g2 κ c, ent_in (aQ V) h κ.isLt, row_of]

/-- A point of call 1 in its two coordinates. -/
theorem pt1 : ∀ t : Fin cfg1.N, t.val / 5 = (grid1.coords t 0).val ∧ t.val % 5 = (grid1.coords t 1).val :=
  (by decide +kernel : ∀ t : Fin grid1.N, _)

/-- The point after one that is not the last of its row of points, in its two coordinates. -/
theorem pt1_next (t : Fin cfg1.N) (h : (grid1.coords t 1).val < 4) :
    (t.val + 1) / 5 = (grid1.coords t 0).val ∧ (t.val + 1) % 5 = (grid1.coords t 1).val + 1 := by
  obtain ⟨h0, h1⟩ := pt1 t
  omega

/-- One term of the block product: an adjacency entry times a feature, a masked column counting nothing. -/
theorem term1 {V : Valuation τ sig (Elt Ideal)} {t : Fin cfg1.N} {x2 : Vec Ideal S2048x2048 .f32} {x3 : Vec Ideal S2048x256 .bf16}
    (g2 : Got cfg1 V 0 t x2) (g3 : Got cfg1 V 1 t x3) (r : Fin 2048) (κ : Fin 2048) (c : Fin 256)
    (h : 2048 * (grid1.coords t 0).val + r.val < 10000) :
    (if 2048 * (grid1.coords t 1).val + κ.val < 10000 then x2 (ix2 r κ) else 0) * x3 (ix2 κ c)
      = ent (aA V) (2048 * (grid1.coords t 0).val + r.val) (2048 * (grid1.coords t 1).val + κ.val)
        * row (aS V) (2048 * (grid1.coords t 1).val + κ.val) c := by
  have hk : (grid1.coords t 1).val < 5 := (grid1.coords t 1).isLt
  have hκ : 2048 * (grid1.coords t 1).val + κ.val < 10240 := by omega
  rw [got1_1 g3 κ c hκ, row_in (aS V) hκ]
  split
  next hc => rw [got1_0 g2 r κ h hc, ent_in (aA V) h hc]
  next hc => rw [show ent (aA V) (2048 * (grid1.coords t 0).val + r.val) (2048 * (grid1.coords t 1).val + κ.val) = 0 from dif_neg hc]

/-- Away from the last column point the adjacency block is copied as it is. -/
theorem holds_q {V : Valuation τ sig (Elt Ideal)} {t : Fin cfg1.N} {x2 : Vec Ideal S2048x2048 .f32} (hk : (grid1.coords t 1).val < 4)
    (g2 : Got cfg1 V 0 t x2) : preds.Pq V t (k1_pay3 x2) := by
  intro r c h
  have hc : 2048 * (grid1.coords t 1).val + c.val < 10000 := by omega
  rw [pay3q_at, got1_0 g2 r c h hc, ent_in (aA V) h hc]

/-- At the first column point the block is copied and the accumulator is set to the first block product. -/
theorem holds_first (V : Valuation τ sig (Elt Ideal)) (t : Fin cfg1.N) (x2 x3) (hk : (grid1.coords t 1).val = 0) (g2 : Got cfg1 V 0 t x2)
    (g3 : Got cfg1 V 1 t x3) : preds.Pq V t (k1_pay3 x2) ∧ preds.Acc V (t.val + 1) (k1_pay5 x3 x2) := by
  refine ⟨holds_q (by omega) g2, fun _ r c h => ?_⟩
  obtain ⟨e0, e1⟩ := pt1_next t (by omega)
  rw [e0] at h ⊢
  rw [e1, pay5_at, hk, Finset.sum_range]
  refine Finset.sum_congr rfl fun κ _ => ?_
  have e := term1 g2 g3 r κ c h
  rw [hk, if_pos (by omega)] at e
  refine e.trans ?_
  rw [show 2048 * 0 + κ.val = κ.val by omega]

/-- Adding a block product carries the partial sum over the blocks so far to the one with this block. -/
theorem acc_step {V : Valuation τ sig (Elt Ideal)} {t : Fin cfg1.N} {x2 : Vec Ideal S2048x2048 .f32} {x3 : Vec Ideal S2048x256 .bf16}
    {x8 : Vec Ideal S2048x256 .f32} (hk : 0 < (grid1.coords t 1).val) (g2 : Got cfg1 V 0 t x2) (g3 : Got cfg1 V 1 t x3)
    (ha : preds.Acc V t.val x8) (r : Fin 2048) (c : Fin 256) (h : 2048 * (grid1.coords t 0).val + r.val < 10000) :
    x8 (ix2 r c) + ∑ κ : Fin 2048, (if 2048 * (grid1.coords t 1).val + κ.val < 10000 then x2 (ix2 r κ) else 0) * x3 (ix2 κ c)
      = ∑ κ ∈ Finset.range (2048 * ((grid1.coords t 1).val + 1)), ent (aA V) (2048 * (grid1.coords t 0).val + r.val) κ * row (aS V) κ c := by
  obtain ⟨e0, e1⟩ := pt1 t
  have ea := ha (by omega) r c (by omega)
  rw [e0, e1] at ea
  rw [ea, Nat.mul_add, Nat.mul_one, ← sum_block]
  exact congrArg _ (Finset.sum_congr rfl fun κ _ => term1 g2 g3 r κ c h)

/-- At a middle column point the block is copied and the accumulator gains a block product. -/
theorem holds_mid (V : Valuation τ sig (Elt Ideal)) (t : Fin cfg1.N) (x2 x3 x8) (hk : 0 < (grid1.coords t 1).val) (hk' : (grid1.coords t 1).val < 4)
    (g2 : Got cfg1 V 0 t x2) (g3 : Got cfg1 V 1 t x3) (ha : preds.Acc V t.val x8) :
    preds.Pq V t (k1_pay3 x2) ∧ preds.Acc V (t.val + 1) (k1_pay6 x3 x2 x8) := by
  refine ⟨holds_q hk' g2, fun _ r c h => ?_⟩
  obtain ⟨e0, e1⟩ := pt1_next t hk'
  rw [e0] at h ⊢
  rw [e1, pay6_at, ← acc_step hk g2 g3 ha r c h]
  refine congrArg _ (Finset.sum_congr rfl fun κ _ => ?_)
  rw [if_pos (by omega)]

/-- At the last column point layer 1 is stored from the finished sum, and the copied block is zero in its padded columns. -/
theorem holds_last (V : Valuation τ sig (Elt Ideal)) (t : Fin cfg1.N) (x2 x3 x4 x5 x8) (hk : (grid1.coords t 1).val = 4)
    (g2 : Got cfg1 V 0 t x2) (g3 : Got cfg1 V 1 t x3) (g4 : Got cfg1 V 2 t x4) (g5 : Got cfg1 V 3 t x5) (ha : preds.Acc V t.val x8) :
    preds.Ph V t (k1_pay7 (k1_pay13 (k1_pay12 (BitVec.ofNat 32 (grid1.coords t 1).val) (k1_pay1 x3) x2 x8) x4 x5) (k1_pay14 (BitVec.ofNat 32 (grid1.coords t 0).val)) (Scalar.ofBits .f32 0))
      ∧ preds.Pq V t (k1_pay9 (BitVec.ofNat 32 (grid1.coords t 1).val) x2)
      ∧ preds.Acc V (t.val + 1) (k1_pay12 (BitVec.ofNat 32 (grid1.coords t 1).val) (k1_pay1 x3) x2 x8) := by
  have hi : (grid1.coords t 0).val < 5 := (grid1.coords t 0).isLt
  refine ⟨fun r c => ?_, fun r c h => ?_, fun hn => ?_⟩
  · refine (pay7_at _ hi _ _ _ r c).trans ?_
    unfold spec1 wide
    split
    next h =>
      refine Finset.sum_congr rfl fun j _ => ?_
      rw [pay12_at _ (by omega), acc_step (by omega) g2 g3 ha r j h, got1_2 g4 0 j, got1_3 g5 j c, hk]
    next => rfl
  · rw [pay9_at _ (by omega)]
    split
    next hc => rw [got1_0 g2 r c h hc, ent_in (aA V) h hc]
    next hc => exact (show ent (aA V) (2048 * (grid1.coords t 0).val + r.val) (2048 * (grid1.coords t 1).val + c.val) = 0 from dif_neg hc).symm
  · obtain ⟨e0, e1⟩ := pt1 t
    omega

/-- The five bodies keep the predicates. -/
theorem holds : Holds preds where
  h0 := holds0
  acc0 := fun V x h => absurd rfl h
  first := holds_first
  mid := holds_mid
  last := holds_last
  h2 := holds2
  h3 := holds3
  h4 := holds4

end Cert.KernelIdeal.Value
-- ==== Proof.OutI.lean ====
/- The arrays the five calls leave, entry by entry. -/
module

public import proofs.«01_k».proof.Proof.HoldsI
public import Idealize.ShloMosaic.Lib.Pipeline.ArrRel

@[expose] public section

set_option maxRecDepth 16384

noncomputable section

namespace Cert.KernelIdeal.Value

open Cert.KernelIdeal Cert.KernelIdeal.Gen Cert.Chain Cert.KernelIdeal.Run Cert.KernelIdeal.Body Cert.Layers
open Idealize.ShloMosaic Idealize.ShloMosaic.TcCoe Idealize.SL.Sem Idealize.ShloMosaic.Pipeline

/-- A property of everything the body may leave at the points that write back holds of every entry of the array, when
    the blocks cover it. -/
theorem arr_forall {cfg : Cfg sig Λ₀} {c : Dev nD} {rd : RDat τ (Elt Ideal) Unit ℕ UU ℕ cfg c} {w : Fin cfg.W}
    {G : Buf (Elt Ideal) ((cfg.win w).arr.view.loc (c.tc : Thread nD τ))} (hG : rd.ArrAt w cfg.N G)
    (P : ((cfg.win w).arr.view.loc (c.tc : Thread nD τ)).2.ty.Idx → Elt Ideal ((cfg.win w).arr.view.loc (c.tc : Thread nD τ)).2.ty.elt → Prop)
    (hcov : (cfg.win w).Covers)
    (harr : (cfg.win w).arr.IsWhole)
    (hP : ∀ t, (cfg.win w).flush t = true → ∀ X Y, rd.after w t Y X → ∀ y : ((cfg.win w).xblock (cfg.grid.coords t)).Idx,
      P (((cfg.win w).blk t).view.emb y)
        (_root_.cast (congrArg (Elt Ideal) ((cfg.win w).blk t).view.elt_eq.symm) (X ((cfg.win w).xinj (cfg.grid.coords t) y))))
    (i : ((cfg.win w).arr.view.loc (c.tc : Thread nD τ)).2.ty.Idx) : P i (G i) := by
  obtain ⟨X, hX, hE⟩ := RDat.ArrAt.exists_exact hG
  have e := hE (Function.update (fun _ _ _ => Classical.arbitrary _) w X) fun u _ _ => by rw [Function.update_self]
  rw [e]
  refine Dat.arrAt_forall_of_covers _ w P hcov (fun t hf y => ?_) i harr
  rw [RDat.withAfter_after, Function.update_self]
  obtain ⟨Y, -, h⟩ := hX t t.isLt hf
  exact hP t hf _ Y h y

/-- Where result window 4 of call 0 lies at a point. -/
theorem geo0_4 : ∀ t : Fin cfg0.N, win0_4.index t = ![(grid0.coords t 0).val, 0] := (by decide +kernel : ∀ t : Fin grid0.N, _)

/-- Call 0 leaves the projected features. -/
theorem out0 (V : Valuation τ sig (Elt Ideal)) (c : Dev nD) (G : Vec Ideal S10240x256 .bf16) (h : (rd0 preds V c).ArrAt 4 cfg0.N G)
    (i : Fin 10240) (j : Fin 256) : G (ix2 i j) = spec0 V i j := by
  refine arr_forall h (fun q v => ∀ (a : ℕ) (b : Fin 256), (q 0).val = a → (q 1).val = b.val → v = spec0 V a b) (by decide +kernel) (Memref.isWhole_whole _)
    (fun t hf X Y hX y a b ha hb => ?_) (ix2 i j) i j rfl rfl
  have e : X ((cfg0.win 4).xinj (cfg0.grid.coords t) y) = _ :=
    (congrArg X (eq_ix2 ((cfg0.win 4).xinj (cfg0.grid.coords t) y))).trans
      (hX ((cfg0.win 4).xinj (cfg0.grid.coords t) y 0) ((cfg0.win 4).xinj (cfg0.grid.coords t) y 1))
  blk_simp [geo0_4 t] at ha hb
  refine Eq.trans e ?_
  refine congrArg₂ (spec0 V) ?_ (Fin.ext hb)
  show 2048 * (grid0.coords t 0).val + (y 0).val = a
  omega

/-- The hidden layer is written back at the last column point. -/
theorem flush1 : ∀ t : Fin cfg1.N, (cfg1.win 4).flush t = true → (grid1.coords t 1).val = 4 :=
  (by decide +kernel : ∀ t : Fin grid1.N, win1_4.flush t = true → (grid1.coords t 1).val = 4)

/-- Where result window 4 of call 1 lies at a point. -/
theorem geo1_4 : ∀ t : Fin cfg1.N, win1_4.index t = ![(grid1.coords t 0).val, 0] := (by decide +kernel : ∀ t : Fin grid1.N, _)

/-- Call 1 leaves the hidden layer, projected. -/
theorem out1 (V : Valuation τ sig (Elt Ideal)) (c : Dev nD) (G : Vec Ideal S10240x128 .bf16) (h : (rd1 preds V c).ArrAt 4 cfg1.N G)
    (i : Fin 10240) (j : Fin 128) : G (ix2 i j) = spec1 V i j := by
  refine arr_forall h (fun q v => ∀ (a : ℕ) (b : Fin 128), (q 0).val = a → (q 1).val = b.val → v = spec1 V a b) (by decide +kernel) (Memref.isWhole_whole _)
    (fun t hf X Y hX y a b ha hb => ?_) (ix2 i j) i j rfl rfl
  have e : X ((cfg1.win 4).xinj (cfg1.grid.coords t) y) = _ :=
    (congrArg X (eq_ix2 ((cfg1.win 4).xinj (cfg1.grid.coords t) y))).trans
      (hX (flush1 t hf) ((cfg1.win 4).xinj (cfg1.grid.coords t) y 0) ((cfg1.win 4).xinj (cfg1.grid.coords t) y 1))
  blk_simp [geo1_4 t] at ha hb
  refine Eq.trans e ?_
  refine congrArg₂ (spec1 V) ?_ (Fin.ext hb)
  show 2048 * (grid1.coords t 0).val + (y 0).val = a
  omega

/-- Where result window 4 of call 2 lies at a point. -/
theorem geo2_4 : ∀ t : Fin cfg2.N, win2_4.index t = ![(grid2.coords t 0).val, 0] := (by decide +kernel : ∀ t : Fin grid2.N, _)

/-- Call 2 leaves layer 2, projected. -/
theorem out2 (V : Valuation τ sig (Elt Ideal)) (c : Dev nD) (G : Vec Ideal S10240x64 .bf16) (h : (rd2 preds V c).ArrAt 4 cfg2.N G)
    (i : Fin 10240) (j : Fin 64) : G (ix2 i j) = spec2 V i j := by
  refine arr_forall h (fun q v => ∀ (a : ℕ) (b : Fin 64), (q 0).val = a → (q 1).val = b.val → v = spec2 V a b) (by decide +kernel) (Memref.isWhole_whole _)
    (fun t hf X Y hX y a b ha hb => ?_) (ix2 i j) i j rfl rfl
  have e : X ((cfg2.win 4).xinj (cfg2.grid.coords t) y) = _ :=
    (congrArg X (eq_ix2 ((cfg2.win 4).xinj (cfg2.grid.coords t) y))).trans
      (hX ((cfg2.win 4).xinj (cfg2.grid.coords t) y 0) ((cfg2.win 4).xinj (cfg2.grid.coords t) y 1))
  blk_simp [geo2_4 t] at ha hb
  refine Eq.trans e ?_
  refine congrArg₂ (spec2 V) ?_ (Fin.ext hb)
  show 1280 * (grid2.coords t 0).val + (y 0).val = a
  omega

/-- Where result window 4 of call 3 lies at a point. -/
theorem geo3_4 : ∀ t : Fin cfg3.N, win3_4.index t = ![(grid3.coords t 0).val, 0] := (by decide +kernel : ∀ t : Fin grid3.N, _)

/-- Call 3 leaves layer 3, projected. -/
theorem out3 (V : Valuation τ sig (Elt Ideal)) (c : Dev nD) (G : Vec Ideal S10240x128 .bf16) (h : (rd3 preds V c).ArrAt 4 cfg3.N G)
    (i : Fin 10240) (j : Fin 128) : G (ix2 i j) = spec3 V i j := by
  refine arr_forall h (fun q v => ∀ (a : ℕ) (b : Fin 128), (q 0).val = a → (q 1).val = b.val → v = spec3 V a b) (by decide +kernel) (Memref.isWhole_whole _)
    (fun t hf X Y hX y a b ha hb => ?_) (ix2 i j) i j rfl rfl
  have e : X ((cfg3.win 4).xinj (cfg3.grid.coords t) y) = _ :=
    (congrArg X (eq_ix2 ((cfg3.win 4).xinj (cfg3.grid.coords t) y))).trans
      (hX ((cfg3.win 4).xinj (cfg3.grid.coords t) y 0) ((cfg3.win 4).xinj (cfg3.grid.coords t) y 1))
  blk_simp [geo3_4 t] at ha hb
  refine Eq.trans e ?_
  refine congrArg₂ (spec3 V) ?_ (Fin.ext hb)
  show 1280 * (grid3.coords t 0).val + (y 0).val = a
  omega

/-- Where result window 3 of call 4 lies at a point. -/
theorem geo4_3 : ∀ t : Fin cfg4.N, win4_3.index t = ![(grid4.coords t 0).val, 0] := (by decide +kernel : ∀ t : Fin grid4.N, _)

set_option maxHeartbeats 2000000 in
/-- Call 4 leaves the result. -/
theorem out4 (V : Valuation τ sig (Elt Ideal)) (c : Dev nD) (G : Vec Ideal S10000x128 .f32) (h : (rd4 preds V c).ArrAt 3 cfg4.N G)
    (i : Fin 10000) (j : Fin 128) : G (ix2 i j) = spec4 V i j := by
  refine arr_forall h (fun q v => ∀ (a : ℕ) (b : Fin 128), (q 0).val = a → (q 1).val = b.val → v = spec4 V a b) (by decide +kernel) (Memref.isWhole_whole _)
    (fun t hf X Y hX y a b ha hb => ?_) (ix2 i j) i j rfl rfl
  have hrow : 1280 * (grid4.coords t 0).val + (y 0).val < 10000 := by
    have hq : ((((cfg4.win 3).blk t).view.emb y) 0).val < 10000 := ((((cfg4.win 3).blk t).view.emb y) 0).isLt
    blk_simp [geo4_3 t] at hq
    omega
  have e : X ((cfg4.win 3).xinj (cfg4.grid.coords t) y) = _ :=
    (congrArg X (eq_ix2 ((cfg4.win 3).xinj (cfg4.grid.coords t) y))).trans
      (hX ((cfg4.win 3).xinj (cfg4.grid.coords t) y 0) ((cfg4.win 3).xinj (cfg4.grid.coords t) y 1) hrow)
  blk_simp [geo4_3 t] at ha hb
  refine Eq.trans e ?_
  refine congrArg₂ (spec4 V) ?_ (Fin.ext hb)
  show 1280 * (grid4.coords t 0).val + (y 0).val = a
  omega

/-- Where the adjacency copy's window lies at a point. -/
theorem geo1_5 : ∀ t : Fin cfg1.N, win1_5.index t = ![(grid1.coords t 0).val, (grid1.coords t 1).val] := (by decide +kernel : ∀ t : Fin grid1.N, _)

/-- Call 1 leaves a copy of the adjacency matrix, zero in the padded columns. -/
theorem out1q (V : Valuation τ sig (Elt Ideal)) (c : Dev nD) (G : Vec Ideal S10000x10240 .fp8e4m3) (h : (rd1 preds V c).ArrAt 5 cfg1.N G)
    (i : Fin 10000) (k : Fin 10240) : G (ix2 i k) = ent (aA V) i k := by
  refine arr_forall h (fun q v => ∀ (a b : ℕ), (q 0).val = a → (q 1).val = b → v = ent (aA V) a b) (by decide +kernel) (Memref.isWhole_whole _)
    (fun t hf X Y hX y a b ha hb => ?_) (ix2 i k) i k rfl rfl
  have hrow : 2048 * (grid1.coords t 0).val + (y 0).val < 10000 := by
    have hq : ((((cfg1.win 5).blk t).view.emb y) 0).val < 10000 := ((((cfg1.win 5).blk t).view.emb y) 0).isLt
    blk_simp [geo1_5 t] at hq
    omega
  have e : X ((cfg1.win 5).xinj (cfg1.grid.coords t) y) = _ :=
    (congrArg X (eq_ix2 ((cfg1.win 5).xinj (cfg1.grid.coords t) y))).trans
      (hX ((cfg1.win 5).xinj (cfg1.grid.coords t) y 0) ((cfg1.win 5).xinj (cfg1.grid.coords t) y 1) hrow)
  blk_simp [geo1_5 t] at ha hb
  refine Eq.trans e ?_
  refine congrArg₂ (ent (aA V)) ?_ ?_
  · show 2048 * (grid1.coords t 0).val + (y 0).val = a
    omega
  · show 2048 * (grid1.coords t 1).val + (y 1).val = b
    omega

end Cert.KernelIdeal.Value
-- ==== Proof.LinksI.lean ====
/- The contents of the program's buffers between its items, in the mathematics' own terms. -/
module

public import proofs.«01_k».proof.Proof.OutI
public import proofs.«01_k».proof.Proof.FrameI
public import Idealize.ShloMosaic.Lib.StableHlo.Run

@[expose] public section

set_option maxRecDepth 16384

noncomputable section

namespace Cert.KernelIdeal.Value

open Cert.KernelIdeal Cert.KernelIdeal.Gen Cert.Chain Cert.KernelIdeal.Run Cert.Layers
open Idealize.ShloMosaic Idealize.ShloMosaic.TcCoe Idealize.ShloMosaic.Tactic Idealize.SL.Sem Idealize.ShloMosaic.Pipeline
open Idealize.ShloMosaic.Rounds

/-- A padded array agreeing with rows that are zero past its end has those rows. -/
theorem row_ext {m n : ℕ} (X : (⟨2, ![m, n]⟩ : Shape).Idx → EReal) (T : ℕ → Fin n → EReal) (h : ∀ (i : Fin m) j, X (ix2 i j) = T i j)
    (hz : ∀ i, m ≤ i → ∀ j, T i j = 0) : row X = T := by
  funext i j
  unfold row
  split
  · next hi => exact h ⟨i, hi⟩ j
  · next hi => exact (hz i (by omega) j).symm

/-- The padded copy of a matrix has the matrix's entries. -/
theorem ent_ext (Q : Vec Ideal S10000x10240 .fp8e4m3) (A : Vec Ideal S10000x10000 .f32) (h : ∀ i k, Q (ix2 i k) = ent A i k) :
    ent Q = ent A := by
  funext i k
  by_cases hk : k < 10240
  · by_cases hi : i < 10000
    · exact (ent_of Q ⟨i, hi⟩ ⟨k, hk⟩).trans (h _ _)
    · unfold ent row; simp only [dif_neg hi, dite_eq_ite, ite_self]
  · unfold ent; rw [dif_neg hk, dif_neg (by omega)]

/-- A layer is zero past row 10000. -/
theorem layer_zero {n p : ℕ} (A : ℕ → ℕ → EReal) (s : ℕ → Fin n → EReal) (b : Fin n → EReal) (W : Fin n → Fin p → EReal) (i : ℕ)
    (h : 10000 ≤ i) (c : Fin p) : layer A s b W i c = 0 := if_neg (by omega)

/-- The features are zero past row 10000. -/
theorem feat_zero {p : ℕ} (X : ℕ → Fin 128 → EReal) (g b : Fin 128 → EReal) (W : Fin 128 → Fin p → EReal) (i : ℕ)
    (h : 10000 ≤ i) (c : Fin p) : feat X g b W i c = 0 := if_neg (by omega)

/-- The one-row copy of `main_arg2`. -/
theorem cast_main_v0 (V : Valuation τ sig (Elt Ideal)) (j : Fin 128) :
    (StableHlo.after hostOps0 V (Proc.devRef .tc main_v0) : Vec Ideal S1x128 .f32) (ix2 0 j) = (V (Proc.devRef .tc main_arg2) : Vec Ideal S128 .f32) (ix1 j) := by
  after_results_simp
  pointwise []

/-- The one-row copy of `main_arg3`. -/
theorem cast_main_v1 (V : Valuation τ sig (Elt Ideal)) (j : Fin 128) :
    (StableHlo.after hostOps0 V (Proc.devRef .tc main_v1) : Vec Ideal S1x128 .f32) (ix2 0 j) = (V (Proc.devRef .tc main_arg3) : Vec Ideal S128 .f32) (ix1 j) := by
  after_results_simp
  pointwise []

/-- The one-row copy of `main_arg5`. -/
theorem cast_main_v3 (V : Valuation τ sig (Elt Ideal)) (j : Fin 256) :
    (StableHlo.after hostOps1 V (Proc.devRef .tc main_v3) : Vec Ideal S1x256 .f32) (ix2 0 j) = (V (Proc.devRef .tc main_arg5) : Vec Ideal S256 .f32) (ix1 j) := by
  after_results_simp
  pointwise []

/-- The one-row copy of `main_arg7`. -/
theorem cast_main_v5 (V : Valuation τ sig (Elt Ideal)) (j : Fin 128) :
    (StableHlo.after hostOps2 V (Proc.devRef .tc main_v5) : Vec Ideal S1x128 .f32) (ix2 0 j) = (V (Proc.devRef .tc main_arg7) : Vec Ideal S128 .f32) (ix1 j) := by
  after_results_simp
  pointwise []

/-- The one-row copy of `main_arg9`. -/
theorem cast_main_v7 (V : Valuation τ sig (Elt Ideal)) (j : Fin 64) :
    (StableHlo.after hostOps3 V (Proc.devRef .tc main_v7) : Vec Ideal S1x64 .f32) (ix2 0 j) = (V (Proc.devRef .tc main_arg9) : Vec Ideal S64 .f32) (ix1 j) := by
  after_results_simp
  pointwise []

/-- The one-row copy of `main_arg11`. -/
theorem cast_main_v9 (V : Valuation τ sig (Elt Ideal)) (j : Fin 128) :
    (StableHlo.after hostOps4 V (Proc.devRef .tc main_v9) : Vec Ideal S1x128 .f32) (ix2 0 j) = (V (Proc.devRef .tc main_arg11) : Vec Ideal S128 .f32) (ix1 j) := by
  after_results_simp
  pointwise []

/-- The features as launched. -/
abbrev inX (m : (ℓ : Loc nD τ sig) → Buf (Elt Ideal) ℓ) (c : Dev nD) : Vec Ideal S10000x128 .f32 := m ((c.tc : Thread nD τ).loc main_arg0)

/-- The adjacency matrix as launched. -/
abbrev inA (m : (ℓ : Loc nD τ sig) → Buf (Elt Ideal) ℓ) (c : Dev nD) : Vec Ideal S10000x10000 .f32 := m ((c.tc : Thread nD τ).loc main_arg1)

/-- The scale as launched. -/
abbrev inG (m : (ℓ : Loc nD τ sig) → Buf (Elt Ideal) ℓ) (c : Dev nD) : Vec Ideal S128 .f32 := m ((c.tc : Thread nD τ).loc main_arg2)

/-- The shift as launched. -/
abbrev inB (m : (ℓ : Loc nD τ sig) → Buf (Elt Ideal) ℓ) (c : Dev nD) : Vec Ideal S128 .f32 := m ((c.tc : Thread nD τ).loc main_arg3)

/-- The first weights as launched. -/
abbrev inW1 (m : (ℓ : Loc nD τ sig) → Buf (Elt Ideal) ℓ) (c : Dev nD) : Vec Ideal S128x256 .f32 := m ((c.tc : Thread nD τ).loc main_arg4)

/-- The first bias as launched. -/
abbrev inB1 (m : (ℓ : Loc nD τ sig) → Buf (Elt Ideal) ℓ) (c : Dev nD) : Vec Ideal S256 .f32 := m ((c.tc : Thread nD τ).loc main_arg5)

/-- The second weights as launched. -/
abbrev inW2 (m : (ℓ : Loc nD τ sig) → Buf (Elt Ideal) ℓ) (c : Dev nD) : Vec Ideal S256x128 .f32 := m ((c.tc : Thread nD τ).loc main_arg6)

/-- The second bias as launched. -/
abbrev inB2 (m : (ℓ : Loc nD τ sig) → Buf (Elt Ideal) ℓ) (c : Dev nD) : Vec Ideal S128 .f32 := m ((c.tc : Thread nD τ).loc main_arg7)

/-- The third weights as launched. -/
abbrev inW3 (m : (ℓ : Loc nD τ sig) → Buf (Elt Ideal) ℓ) (c : Dev nD) : Vec Ideal S128x64 .f32 := m ((c.tc : Thread nD τ).loc main_arg8)

/-- The third bias as launched. -/
abbrev inB3 (m : (ℓ : Loc nD τ sig) → Buf (Elt Ideal) ℓ) (c : Dev nD) : Vec Ideal S64 .f32 := m ((c.tc : Thread nD τ).loc main_arg9)

/-- The fourth weights as launched. -/
abbrev inW4 (m : (ℓ : Loc nD τ sig) → Buf (Elt Ideal) ℓ) (c : Dev nD) : Vec Ideal S64x128 .f32 := m ((c.tc : Thread nD τ).loc main_arg10)

/-- The fourth bias as launched. -/
abbrev inB4 (m : (ℓ : Loc nD τ sig) → Buf (Elt Ideal) ℓ) (c : Dev nD) : Vec Ideal S128 .f32 := m ((c.tc : Thread nD τ).loc main_arg11)

/-- The projected features of the launched arguments. -/
def T0 (m : (ℓ : Loc nD τ sig) → Buf (Elt Ideal) ℓ) (c : Dev nD) : ℕ → Fin 256 → EReal :=
  feat (row (inX m c)) (fun k => inG m c (ix1 k)) (fun k => inB m c (ix1 k)) (fun k j => inW1 m c (ix2 k j))

/-- Layer 1 of the launched arguments, projected. -/
def T1 (m : (ℓ : Loc nD τ sig) → Buf (Elt Ideal) ℓ) (c : Dev nD) : ℕ → Fin 128 → EReal :=
  layer (ent (inA m c)) (T0 m c) (fun j => inB1 m c (ix1 j)) (fun j k => inW2 m c (ix2 j k))

/-- Layer 2 of the launched arguments, projected. -/
def T2 (m : (ℓ : Loc nD τ sig) → Buf (Elt Ideal) ℓ) (c : Dev nD) : ℕ → Fin 64 → EReal :=
  layer (ent (inA m c)) (T1 m c) (fun j => inB2 m c (ix1 j)) (fun j k => inW3 m c (ix2 j k))

/-- Layer 3 of the launched arguments, projected. -/
def T3 (m : (ℓ : Loc nD τ sig) → Buf (Elt Ideal) ℓ) (c : Dev nD) : ℕ → Fin 128 → EReal :=
  layer (ent (inA m c)) (T2 m c) (fun j => inB3 m c (ix1 j)) (fun j k => inW4 m c (ix2 j k))

/-- The result of the launched arguments. -/
def T4 (m : (ℓ : Loc nD τ sig) → Buf (Elt Ideal) ℓ) (c : Dev nD) (i : ℕ) (j : Fin 128) : EReal := agg (ent (inA m c)) (T3 m c) i j + inB4 m c (ix1 j)

/-- What the buffers hold after each item of the program, beside the arguments as launched. -/
def Inv (m : (ℓ : Loc nD τ sig) → Buf (Elt Ideal) ℓ) : ℕ → Dev nD → Valuation τ sig (Elt Ideal) → Prop
  | 0, c, V => Kept m c V
  | 1, c, V => Kept m c V ∧ (∀ k, aG V (ix2 0 k) = inG m c (ix1 k)) ∧ ∀ k, aB V (ix2 0 k) = inB m c (ix1 k)
  | 2, c, V => Kept m c V ∧ row (aS V) = T0 m c
  | 3, c, V => Kept m c V ∧ row (aS V) = T0 m c ∧ ∀ j, aB1 V (ix2 0 j) = inB1 m c (ix1 j)
  | 4, c, V => Kept m c V ∧ ent (aQ V) = ent (inA m c) ∧ row (aH1 V) = T1 m c
  | 5, c, V => Kept m c V ∧ ent (aQ V) = ent (inA m c) ∧ row (aH1 V) = T1 m c ∧ ∀ j, aB2 V (ix2 0 j) = inB2 m c (ix1 j)
  | 6, c, V => Kept m c V ∧ ent (aQ V) = ent (inA m c) ∧ row (aH2 V) = T2 m c
  | 7, c, V => Kept m c V ∧ ent (aQ V) = ent (inA m c) ∧ row (aH2 V) = T2 m c ∧ ∀ j, aB3 V (ix2 0 j) = inB3 m c (ix1 j)
  | 8, c, V => Kept m c V ∧ ent (aQ V) = ent (inA m c) ∧ row (aH3 V) = T3 m c
  | 9, c, V => Kept m c V ∧ ent (aQ V) = ent (inA m c) ∧ row (aH3 V) = T3 m c ∧ ∀ j, aB4 V (ix2 0 j) = inB4 m c (ix1 j)
  | _, c, V => Kept m c V ∧ ∀ (i : Fin 10000) j, (V (Proc.devRef .tc main_v10) : Vec Ideal S10000x128 .f32) (ix2 i j) = T4 m c i j

/-- Call 0's rows are the launched arguments' features. -/
theorem spec0_eq (m : (ℓ : Loc nD τ sig) → Buf (Elt Ideal) ℓ) (c : Dev nD) (V : Valuation τ sig (Elt Ideal)) (h : Inv m 1 c V) : spec0 V = T0 m c := by
  obtain ⟨hk, hg, hb⟩ := h
  unfold spec0 T0
  rw [show aX V = inX m c from hk _ (by decide), show aW1 V = inW1 m c from hk _ (by decide), funext hg, funext hb]

/-- Call 1's rows are the launched arguments' layer 1. -/
theorem spec1_eq (m : (ℓ : Loc nD τ sig) → Buf (Elt Ideal) ℓ) (c : Dev nD) (V : Valuation τ sig (Elt Ideal)) (h : Inv m 3 c V) : spec1 V = T1 m c := by
  obtain ⟨hk, hs, hb⟩ := h
  unfold spec1 T1
  rw [show aA V = inA m c from hk _ (by decide), show aW2 V = inW2 m c from hk _ (by decide), funext hb, hs]
  exact wide_eq _ _ (feat_zero _ _ _ _) _ _

/-- Call 2's rows are the launched arguments' layer 2. -/
theorem spec2_eq (m : (ℓ : Loc nD τ sig) → Buf (Elt Ideal) ℓ) (c : Dev nD) (V : Valuation τ sig (Elt Ideal)) (h : Inv m 5 c V) : spec2 V = T2 m c := by
  obtain ⟨hk, hq, hs, hb⟩ := h
  unfold spec2 T2
  rw [hq, show aW3 V = inW3 m c from hk _ (by decide), funext hb, hs]
  exact wide_eq _ _ (layer_zero _ _ _ _) _ _

/-- Call 3's rows are the launched arguments' layer 3. -/
theorem spec3_eq (m : (ℓ : Loc nD τ sig) → Buf (Elt Ideal) ℓ) (c : Dev nD) (V : Valuation τ sig (Elt Ideal)) (h : Inv m 7 c V) : spec3 V = T3 m c := by
  obtain ⟨hk, hq, hs, hb⟩ := h
  unfold spec3 T3
  rw [hq, show aW4 V = inW4 m c from hk _ (by decide), funext hb, hs]
  exact wide_eq _ _ (layer_zero _ _ _ _) _ _

/-- Call 4's rows are the launched arguments' result. -/
theorem spec4_eq (m : (ℓ : Loc nD τ sig) → Buf (Elt Ideal) ℓ) (c : Dev nD) (V : Valuation τ sig (Elt Ideal)) (h : Inv m 9 c V) (i : ℕ) (j : Fin 128) : spec4 V i j = T4 m c i j := by
  obtain ⟨hk, hq, hs, hb⟩ := h
  unfold spec4 T4
  rw [hq, hs, hb j, agg_eq (ent (inA m c)) (T3 m c) (layer_zero _ _ _ _) i j 10240 (by norm_num)]

/-- The rows call 0 leaves. -/
theorem rows0 (m : (ℓ : Loc nD τ sig) → Buf (Elt Ideal) ℓ) (c : Dev nD) (V : Valuation τ sig (Elt Ideal)) (A : (w : Fin 5) → Buf (Elt Ideal) ((cfg0.win w).arr.view.loc (c.tc : Thread nD τ)))
    (h : Inv m 1 c V) (hA : (rd0 preds V c).ArrAt 4 cfg0.N (A 4)) :
    row (aS (withArrays Cert.KernelIdeal.spec0 c V A)) = T0 m c :=
  row_ext _ _ (fun i j => (congrFun (withArrays_arr Cert.KernelIdeal.spec0 winFacts0.arr_inj c V A 4) (ix2 i j)).trans
      ((out0 V c (A 4) hA i j).trans (congrFun (congrFun (spec0_eq m c V h) i) j)))
    (fun i hi j => feat_zero _ _ _ _ i (by omega) j)

/-- The rows call 1 leaves. -/
theorem rows1 (m : (ℓ : Loc nD τ sig) → Buf (Elt Ideal) ℓ) (c : Dev nD) (V : Valuation τ sig (Elt Ideal)) (A : (w : Fin 6) → Buf (Elt Ideal) ((cfg1.win w).arr.view.loc (c.tc : Thread nD τ)))
    (h : Inv m 3 c V) (hA : (rd1 preds V c).ArrAt 4 cfg1.N (A 4)) :
    row (aH1 (withArrays Cert.KernelIdeal.spec1 c V A)) = T1 m c :=
  row_ext _ _ (fun i j => (congrFun (withArrays_arr Cert.KernelIdeal.spec1 winFacts1.arr_inj c V A 4) (ix2 i j)).trans
      ((out1 V c (A 4) hA i j).trans (congrFun (congrFun (spec1_eq m c V h) i) j)))
    (fun i hi j => layer_zero _ _ _ _ i (by omega) j)

/-- The rows call 2 leaves. -/
theorem rows2 (m : (ℓ : Loc nD τ sig) → Buf (Elt Ideal) ℓ) (c : Dev nD) (V : Valuation τ sig (Elt Ideal)) (A : (w : Fin 5) → Buf (Elt Ideal) ((cfg2.win w).arr.view.loc (c.tc : Thread nD τ)))
    (h : Inv m 5 c V) (hA : (rd2 preds V c).ArrAt 4 cfg2.N (A 4)) :
    row (aH2 (withArrays Cert.KernelIdeal.spec2 c V A)) = T2 m c :=
  row_ext _ _ (fun i j => (congrFun (withArrays_arr Cert.KernelIdeal.spec2 winFacts2.arr_inj c V A 4) (ix2 i j)).trans
      ((out2 V c (A 4) hA i j).trans (congrFun (congrFun (spec2_eq m c V h) i) j)))
    (fun i hi j => layer_zero _ _ _ _ i (by omega) j)

/-- The rows call 3 leaves. -/
theorem rows3 (m : (ℓ : Loc nD τ sig) → Buf (Elt Ideal) ℓ) (c : Dev nD) (V : Valuation τ sig (Elt Ideal)) (A : (w : Fin 5) → Buf (Elt Ideal) ((cfg3.win w).arr.view.loc (c.tc : Thread nD τ)))
    (h : Inv m 7 c V) (hA : (rd3 preds V c).ArrAt 4 cfg3.N (A 4)) :
    row (aH3 (withArrays Cert.KernelIdeal.spec3 c V A)) = T3 m c :=
  row_ext _ _ (fun i j => (congrFun (withArrays_arr Cert.KernelIdeal.spec3 winFacts3.arr_inj c V A 4) (ix2 i j)).trans
      ((out3 V c (A 4) hA i j).trans (congrFun (congrFun (spec3_eq m c V h) i) j)))
    (fun i hi j => layer_zero _ _ _ _ i (by omega) j)

/-- The adjacency copy call 1 leaves. -/
theorem copy1 (m : (ℓ : Loc nD τ sig) → Buf (Elt Ideal) ℓ) (c : Dev nD) (V : Valuation τ sig (Elt Ideal)) (A : (w : Fin 6) → Buf (Elt Ideal) ((cfg1.win w).arr.view.loc (c.tc : Thread nD τ)))
    (h : Kept m c V) (hA : (rd1 preds V c).ArrAt 5 cfg1.N (A 5)) :
    ent (aQ (withArrays Cert.KernelIdeal.spec1 c V A)) = ent (inA m c) :=
  (ent_ext (aQ (withArrays Cert.KernelIdeal.spec1 c V A)) (aA V) fun i k =>
    (congrFun (withArrays_arr Cert.KernelIdeal.spec1 winFacts1.arr_inj c V A 5) (ix2 i k)).trans (out1q V c (A 5) hA i k)).trans
    (congrArg ent (h main_arg1 (by decide)))

/-- The result call 4 leaves. -/
theorem rows4 (m : (ℓ : Loc nD τ sig) → Buf (Elt Ideal) ℓ) (c : Dev nD) (V : Valuation τ sig (Elt Ideal)) (A : (w : Fin 4) → Buf (Elt Ideal) ((cfg4.win w).arr.view.loc (c.tc : Thread nD τ)))
    (h : Inv m 9 c V) (hA : (rd4 preds V c).ArrAt 3 cfg4.N (A 3)) (i : Fin 10000) (j : Fin 128) :
    (withArrays Cert.KernelIdeal.spec4 c V A (Proc.devRef .tc main_v10) : Vec Ideal S10000x128 .f32) (ix2 i j) = T4 m c i j :=
  (congrFun (withArrays_arr Cert.KernelIdeal.spec4 winFacts4.arr_inj c V A 3) (ix2 i j)).trans
    ((out4 V c (A 3) hA i j).trans (spec4_eq m c V h i j))

/-- The host stretch before call 0 copies the scale and the shift. -/
theorem stretch0 (m : (ℓ : Loc nD τ sig) → Buf (Elt Ideal) ℓ) (c : Dev nD) (V : Valuation τ sig (Elt Ideal)) (h : Inv m 0 c V) : Inv m 1 c (StableHlo.after hostOps0 V) :=
  ⟨kept_host0 m c V h, fun k => (cast_main_v0 V k).trans (congrFun (h main_arg2 (by decide)) (ix1 k)),
    fun k => (cast_main_v1 V k).trans (congrFun (h main_arg3 (by decide)) (ix1 k))⟩

/-- The host stretch before call 1 copies the first bias. -/
theorem stretch1 (m : (ℓ : Loc nD τ sig) → Buf (Elt Ideal) ℓ) (c : Dev nD) (V : Valuation τ sig (Elt Ideal)) (h : Inv m 2 c V) : Inv m 3 c (StableHlo.after hostOps1 V) :=
  ⟨kept_host1 m c V h.1,
    (congrArg row (StableHlo.after_of_writes_sub hostOps1 V hostOps1_writes (r := main_v2) (by decide))).trans h.2,
    fun k => (cast_main_v3 V k).trans (congrFun (h.1 main_arg5 (by decide)) (ix1 k))⟩

/-- The host stretch before call 2 copies the second bias. -/
theorem stretch2 (m : (ℓ : Loc nD τ sig) → Buf (Elt Ideal) ℓ) (c : Dev nD) (V : Valuation τ sig (Elt Ideal)) (h : Inv m 4 c V) : Inv m 5 c (StableHlo.after hostOps2 V) :=
  ⟨kept_host2 m c V h.1,
    (congrArg ent (StableHlo.after_of_writes_sub hostOps2 V hostOps2_writes (r := main_v4_1) (by decide))).trans h.2.1,
    (congrArg row (StableHlo.after_of_writes_sub hostOps2 V hostOps2_writes (r := main_v4_0) (by decide))).trans h.2.2,
    fun k => (cast_main_v5 V k).trans (congrFun (h.1 main_arg7 (by decide)) (ix1 k))⟩

/-- The host stretch before call 3 copies the third bias. -/
theorem stretch3 (m : (ℓ : Loc nD τ sig) → Buf (Elt Ideal) ℓ) (c : Dev nD) (V : Valuation τ sig (Elt Ideal)) (h : Inv m 6 c V) : Inv m 7 c (StableHlo.after hostOps3 V) :=
  ⟨kept_host3 m c V h.1,
    (congrArg ent (StableHlo.after_of_writes_sub hostOps3 V hostOps3_writes (r := main_v4_1) (by decide))).trans h.2.1,
    (congrArg row (StableHlo.after_of_writes_sub hostOps3 V hostOps3_writes (r := main_v6) (by decide))).trans h.2.2,
    fun k => (cast_main_v7 V k).trans (congrFun (h.1 main_arg9 (by decide)) (ix1 k))⟩

/-- The host stretch before call 4 copies the fourth bias. -/
theorem stretch4 (m : (ℓ : Loc nD τ sig) → Buf (Elt Ideal) ℓ) (c : Dev nD) (V : Valuation τ sig (Elt Ideal)) (h : Inv m 8 c V) : Inv m 9 c (StableHlo.after hostOps4 V) :=
  ⟨kept_host4 m c V h.1,
    (congrArg ent (StableHlo.after_of_writes_sub hostOps4 V hostOps4_writes (r := main_v4_1) (by decide))).trans h.2.1,
    (congrArg row (StableHlo.after_of_writes_sub hostOps4 V hostOps4_writes (r := main_v8) (by decide))).trans h.2.2,
    fun k => (cast_main_v9 V k).trans (congrFun (h.1 main_arg11 (by decide)) (ix1 k))⟩

/-- Every item of the program keeps the invariant. -/
theorem links (m : (ℓ : Loc nD τ sig) → Buf (Elt Ideal) ℓ) : Links preds (Inv m) where
  o0 c V h := stretch0 m c V h
  r0 c V A h hA := ⟨kept_call0 preds m c V A hA h.1, rows0 m c V A h (hA 4)⟩
  o1 c V h := stretch1 m c V h
  r1 c V A h hA := ⟨kept_call1 preds m c V A hA h.1, copy1 m c V A h.1 (hA 5), rows1 m c V A h (hA 4)⟩
  o2 c V h := stretch2 m c V h
  r2 c V A h hA := ⟨kept_call2 preds m c V A hA h.1, (congrArg ent (keep2 preds c V A hA main_v4_1 (by decide))).trans h.2.1,
    rows2 m c V A h (hA 4)⟩
  o3 c V h := stretch3 m c V h
  r3 c V A h hA := ⟨kept_call3 preds m c V A hA h.1, (congrArg ent (keep3 preds c V A hA main_v4_1 (by decide))).trans h.2.1,
    rows3 m c V A h (hA 4)⟩
  o4 c V h := stretch4 m c V h
  r4 c V A h hA := ⟨kept_call4 preds m c V A hA h.1, rows4 m c V A h (hA 3)⟩

/-- Every execution ends with the result of the launched arguments and the arguments as launched. -/
theorem value (m : (ℓ : Loc nD τ sig) → Buf (Elt Ideal) ℓ) (ρ : Dev nD → PrngReg) :
    θ_run defs (onTc (τ := τ) (main (F := Ideal))) ⟨m, fun _ => 0, ρ⟩ (fun r => ∀ c,
      (∀ (i : Fin 10000) (j : Fin 128), (r.2.mem ((c.tc : Thread nD τ).loc main_v10) : Vec Ideal S10000x128 .f32) (ix2 i j) = T4 m c i j)
      ∧ Same m c r.2) :=
  (θ_run defs _ _).mono (fun r h => h.1) (Run.run preds holds (Inv m) (links m) m ρ (fun _ _ _ => rfl)
    (fun c s => (∀ (i : Fin 10000) (j : Fin 128), (s.mem ((c.tc : Thread nD τ).loc main_v10) : Vec Ideal S10000x128 .f32) (ix2 i j) = T4 m c i j) ∧ Same m c s)
    (fun c V s h hs => ⟨fun i j => by
      rw [← h.2 i j]
      exact congrFun (hs (Proc.devRef .tc main_v10) (Finset.mem_filter.mpr ⟨StableHlo.devRef_mem_tcRefs main_v10, by decide⟩)) (ix2 i j),
      same_of_kept m c V s h.1 hs⟩))

end Cert.KernelIdeal.Value
-- ==== Proof.lean ====
/- The proof of the claims: the frames of the three programs, the idealization and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.FrameK
public import proofs.«01_k».proof.Proof.FrameI
public import proofs.«01_k».proof.Proof.RefI
public import proofs.«01_k».proof.Proof.LinksI
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.Pipeline Idealize.SL.Sem
open Cert.KernelIdeal.Value Cert.ReferenceIdeal.Layered

/-- The kernel as printed runs, faults nowhere, and leaves its arguments and every semaphore counter as at the start. -/
theorem frame_kernel : Cert.quiescent_Kernel (hKernel := Cert.Kernel.Gen.facts) :=
  fun m g _ => Cert.Kernel.Run.frame m g

/-- So does the kernel read at exact values. -/
theorem frame_ideal : Cert.quiescent_KernelIdeal (hKernelIdeal := Cert.KernelIdeal.Gen.facts) :=
  fun m g _ => Cert.KernelIdeal.Run.frame m g

/-- So does the reference, which has no semaphore. -/
theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The reference's result is the kernel's, entry by entry: both are the same layers of the same arguments. -/
theorem same_result (m : (ℓ : Loc Cert.KernelIdeal.nD Cert.KernelIdeal.τ Cert.KernelIdeal.sig) → Buf (Elt Ideal) ℓ) (c : Dev Cert.KernelIdeal.nD)
    (X : Vec Ideal Cert.KernelIdeal.S10000x128 .f32) (h : ∀ (i : Fin 10000) (j : Fin 128), X (ix2 i j) = T4 m c i j) :
    X = p4 (inA m c) (p3 (inA m c) (p2 (inA m c) (p1 (inA m c) (p0 (inX m c) (inG m c) (inB m c) (inW1 m c)) (inB1 m c) (inW2 m c))
      (inB2 m c) (inW3 m c)) (inB3 m c) (inW4 m c)) (inB4 m c) := by
  funext y
  obtain ⟨i, j, rfl⟩ : ∃ i j, y = ix2 i j := ⟨_, _, eq_ix2 y⟩
  rw [h i j, res_at]
  rfl

/-- At exact values the kernel and the reference leave the same result and the arguments as launched. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => p4 (inA m c) (p3 (inA m c) (p2 (inA m c) (p1 (inA m c) (p0 (inX m c) (inG m c) (inB m c) (inW1 m c)) (inB1 m c) (inW2 m c))
      (inB2 m c) (inW3 m c)) (inB3 m c) (inW4 m c)) (inB4 m c), ?_, ?_⟩
  · exact (θ_run Cert.KernelIdeal.defs _ _).mono (fun r h c => ⟨same_result m c _ (h c).1, (h c).2⟩) (Cert.KernelIdeal.Value.value m g)
  · refine (θ_run Cert.ReferenceIdeal.defs _ _).mono (fun r h c => ⟨(h c).1.trans ?_, (h c).2⟩) (Cert.ReferenceIdeal.Layered.run m' g')
    obtain ⟨h0, h1, h2, h3, h4, h5, h6, h7, h8, h9, h10, h11⟩ := hm c
    rw [h0, h1, h2, h3, h4, h5, h6, h7, h8, h9, h10, h11]

/-- Every claim. -/
theorem claim : Cert.Claim := ⟨Cert.Kernel.Gen.facts, Cert.KernelIdeal.Gen.facts, Cert.ReferenceIdeal.Gen.facts,
  frame_kernel, frame_ideal, frame_reference, trivial, algebraic⟩

end Cert.Proof

end
